-- ==== Defs.lean ====
def Pre_Kernel [hPre_counts : Cert.Pre_counts.Facts] (m : (ℓ : Loc Cert.Kernel.nD Cert.Kernel.τ Cert.Kernel.sig) → Buf (Elt Bits) ℓ) : Prop :=
  ∀ c : Dev Cert.Kernel.nD,
    (Cert.Pre_counts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_counts : Cert.Pre_counts.Facts] (m : (ℓ : Loc Cert.KernelIdeal.nD Cert.KernelIdeal.τ Cert.KernelIdeal.sig) → Buf (Elt Ideal) ℓ) : Prop :=
  ∀ c : Dev Cert.KernelIdeal.nD,
    (Cert.Pre_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] [hPre_counts : Cert.Pre_counts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_counts : Cert.Pre_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_counts : Cert.Pre_counts.Facts) (hPre_valid : Cert.Pre_valid.Facts),
    quiescent_Kernel (hKernel := hKernel) (hPre_counts := hPre_counts)
    ∧ quiescent_KernelIdeal (hKernelIdeal := hKernelIdeal) (hPre_counts := hPre_counts)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_counts.lean ====
abbrev S6x256x2880 : Shape := ⟨3, ![6, 256, 2880]⟩
abbrev S6x256x90 : Shape := ⟨3, ![6, 256, 90]⟩
abbrev S5x5760x2880 : Shape := ⟨3, ![5, 5760, 2880]⟩
abbrev S5x5760x90 : Shape := ⟨3, ![5, 5760, 90]⟩
abbrev S5 : Shape := ⟨1, ![5]⟩
abbrev S1 : Shape := ⟨1, ![1]⟩
abbrev S_ : Shape := ⟨0, ![]⟩

class Facts : Prop where
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  bcast_S_S5 : S_.BroadcastsInDim S5 (![] : Fin 0 → Fin S5.rank)

variable [Facts]

def fn_part1 {F : FTy → Type} [FloatOps F] (main_v18 : IVec S5 1) (main_v20 : IVec S5 1) : IVec S5 1 :=
  let main_v21 : IVec S5 1 := andi main_v18 main_v20
  main_v21

def fn {F : FTy → Type} [FloatOps F] (main_arg0 : FVec F S6x256x2880 .fp8e4m3) (main_arg1 : IVec S6x256x90 8) (main_arg2 : FVec F S5x5760x2880 .fp8e4m3) (main_arg3 : IVec S5x5760x90 8) (main_arg4 : IVec S5 32) : IVec S5 1 :=
  let main_v0 : IVec S1 32 := (extractStridedSlice S1 ![0] · slices_S5_S1_0) main_arg4
  let main_v1 : IVec S_ 32 := shapeCast S_ main_v0 shapeCasts_S1_S_
  let main_v2 : IVec S1 32 := (extractStridedSlice S1 ![1] · slices_S5_S1_1) main_arg4
  let main_v3 : IVec S_ 32 := shapeCast S_ main_v2 shapeCasts_S1_S_
  let main_v4 : IVec S_ 32 := addi main_v1 main_v3
  let main_v5 : IVec S1 32 := (extractStridedSlice S1 ![2] · slices_S5_S1_2) main_arg4
  let main_v6 : IVec S_ 32 := shapeCast S_ main_v5 shapeCasts_S1_S_
  let main_v7 : IVec S_ 32 := addi main_v4 main_v6
  let main_v8 : IVec S1 32 := (extractStridedSlice S1 ![3] · slices_S5_S1_3) main_arg4
  let main_v9 : IVec S_ 32 := shapeCast S_ main_v8 shapeCasts_S1_S_
  let main_v10 : IVec S_ 32 := addi main_v7 main_v9
  let main_v11 : IVec S1 32 := (extractStridedSlice S1 ![4] · slices_S5_S1_4) main_arg4
  let main_v12 : IVec S_ 32 := shapeCast S_ main_v11 shapeCasts_S1_S_
  let main_v13 : IVec S_ 32 := addi main_v10 main_v12
  let main_c : IVec S_ 32 := constantI S_ 32 0#32
  let main_v14 : IVec S5 32 := broadcastInDim S5 ![] bcast_S_S5 main_c
  let main_v15 : IVec S5 1 := cmpi .sge main_arg4 main_v14
  let main_c_0 : IVec S_ 32 := constantI S_ 32 1536#32
  let main_v16 : IVec S5 32 := broadcastInDim S5 ![] bcast_S_S5 main_c_0
  let main_v17 : IVec S5 1 := cmpi .sle main_arg4 main_v16
  let main_v18 : IVec S5 1 := andi main_v15 main_v17
  let main_c_1 : IVec S_ 32 := constantI S_ 32 1536#32
  let main_v19 : IVec S_ 1 := cmpi .eq main_v13 main_c_1
  let main_v20 : IVec S5 1 := broadcastInDim S5 ![] bcast_S_S5 main_v19
  fn_part1 (F := F) main_v18 main_v20
-- ==== Pre_valid.lean ====
abbrev S6x256x2880 : Shape := ⟨3, ![6, 256, 2880]⟩
abbrev S6x256x90 : Shape := ⟨3, ![6, 256, 90]⟩
abbrev S5x5760x2880 : Shape := ⟨3, ![5, 5760, 2880]⟩
abbrev S5x5760x90 : Shape := ⟨3, ![5, 5760, 90]⟩
abbrev S5 : Shape := ⟨1, ![5]⟩
abbrev S1 : Shape := ⟨1, ![1]⟩
abbrev S_ : Shape := ⟨0, ![]⟩

class Facts : Prop where
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  bcast_S_S5 : S_.BroadcastsInDim S5 (![] : Fin 0 → Fin S5.rank)
  bcast_S_S6x256x90 : S_.BroadcastsInDim S6x256x90 (![] : Fin 0 → Fin S6x256x90.rank)
  bcast_S_S5x5760x90 : S_.BroadcastsInDim S5x5760x90 (![] : Fin 0 → Fin S5x5760x90.rank)

variable [Facts]

def fn_part1 {F : FTy → Type} [FloatOps F] (main_arg1 : IVec S6x256x90 8) (main_arg3 : IVec S5x5760x90 8) (main_v18 : IVec S5 1) (main_v20 : IVec S5 1) : IVec S5 1 × IVec S6x256x90 1 × IVec S5x5760x90 1 :=
  let main_v21 : IVec S5 1 := andi main_v18 main_v20
  let main_c_2 : IVec S_ 8 := constantI S_ 8 1#8
  let main_v22 : IVec S6x256x90 8 := broadcastInDim S6x256x90 ![] bcast_S_S6x256x90 main_c_2
  let main_v23 : IVec S6x256x90 1 := cmpi .uge main_arg1 main_v22
  let main_c_3 : IVec S_ 8 := constantI S_ 8 254#8
  let main_v24 : IVec S6x256x90 8 := broadcastInDim S6x256x90 ![] bcast_S_S6x256x90 main_c_3
  let main_v25 : IVec S6x256x90 1 := cmpi .ule main_arg1 main_v24
  let main_v26 : IVec S6x256x90 1 := andi main_v23 main_v25
  let main_c_4 : IVec S_ 8 := constantI S_ 8 1#8
  let main_v27 : IVec S5x5760x90 8 := broadcastInDim S5x5760x90 ![] bcast_S_S5x5760x90 main_c_4
  let main_v28 : IVec S5x5760x90 1 := cmpi .uge main_arg3 main_v27
  let main_c_5 : IVec S_ 8 := constantI S_ 8 254#8
  let main_v29 : IVec S5x5760x90 8 := broadcastInDim S5x5760x90 ![] bcast_S_S5x5760x90 main_c_5
  let main_v30 : IVec S5x5760x90 1 := cmpi .ule main_arg3 main_v29
  let main_v31 : IVec S5x5760x90 1 := andi main_v28 main_v30
  (main_v21, main_v26, main_v31)

def fn {F : FTy → Type} [FloatOps F] (main_arg0 : FVec F S6x256x2880 .fp8e4m3) (main_arg1 : IVec S6x256x90 8) (main_arg2 : FVec F S5x5760x2880 .fp8e4m3) (main_arg3 : IVec S5x5760x90 8) (main_arg4 : IVec S5 32) : IVec S5 1 × IVec S6x256x90 1 × IVec S5x5760x90 1 :=
  let main_v0 : IVec S1 32 := (extractStridedSlice S1 ![0] · slices_S5_S1_0) main_arg4
  let main_v1 : IVec S_ 32 := shapeCast S_ main_v0 shapeCasts_S1_S_
  let main_v2 : IVec S1 32 := (extractStridedSlice S1 ![1] · slices_S5_S1_1) main_arg4
  let main_v3 : IVec S_ 32 := shapeCast S_ main_v2 shapeCasts_S1_S_
  let main_v4 : IVec S_ 32 := addi main_v1 main_v3
  let main_v5 : IVec S1 32 := (extractStridedSlice S1 ![2] · slices_S5_S1_2) main_arg4
  let main_v6 : IVec S_ 32 := shapeCast S_ main_v5 shapeCasts_S1_S_
  let main_v7 : IVec S_ 32 := addi main_v4 main_v6
  let main_v8 : IVec S1 32 := (extractStridedSlice S1 ![3] · slices_S5_S1_3) main_arg4
  let main_v9 : IVec S_ 32 := shapeCast S_ main_v8 shapeCasts_S1_S_
  let main_v10 : IVec S_ 32 := addi main_v7 main_v9
  let main_v11 : IVec S1 32 := (extractStridedSlice S1 ![4] · slices_S5_S1_4) main_arg4
  let main_v12 : IVec S_ 32 := shapeCast S_ main_v11 shapeCasts_S1_S_
  let main_v13 : IVec S_ 32 := addi main_v10 main_v12
  let main_c : IVec S_ 32 := constantI S_ 32 0#32
  let main_v14 : IVec S5 32 := broadcastInDim S5 ![] bcast_S_S5 main_c
  let main_v15 : IVec S5 1 := cmpi .sge main_arg4 main_v14
  let main_c_0 : IVec S_ 32 := constantI S_ 32 1536#32
  let main_v16 : IVec S5 32 := broadcastInDim S5 ![] bcast_S_S5 main_c_0
  let main_v17 : IVec S5 1 := cmpi .sle main_arg4 main_v16
  let main_v18 : IVec S5 1 := andi main_v15 main_v17
  let main_c_1 : IVec S_ 32 := constantI S_ 32 1536#32
  let main_v19 : IVec S_ 1 := cmpi .eq main_v13 main_c_1
  let main_v20 : IVec S5 1 := broadcastInDim S5 ![] bcast_S_S5 main_v19
  fn_part1 (F := F) main_arg1 main_arg3 main_v18 main_v20
-- ==== Kernel.lean ====
abbrev S6x256x2880 : Shape := ⟨3, ![6, 256, 2880]⟩
abbrev S6x256x90 : Shape := ⟨3, ![6, 256, 90]⟩
abbrev S5x5760x2880 : Shape := ⟨3, ![5, 5760, 2880]⟩
abbrev S5x5760x90 : Shape := ⟨3, ![5, 5760, 90]⟩
abbrev S5 : Shape := ⟨1, ![5]⟩
abbrev S_ : Shape := ⟨0, ![]⟩
abbrev S1 : Shape := ⟨1, ![1]⟩
abbrev S6 : Shape := ⟨1, ![6]⟩
abbrev S1536x2880 : Shape := ⟨2, ![1536, 2880]⟩
abbrev S1536x90 : Shape := ⟨2, ![1536, 90]⟩
abbrev S1536x5760 : Shape := ⟨2, ![1536, 5760]⟩
abbrev S1x640x2880 : Shape := ⟨3, ![1, 640, 2880]⟩
abbrev S1x640x90 : Shape := ⟨3, ![1, 640, 90]⟩
abbrev S1536x640 : Shape := ⟨2, ![1536, 640]⟩
abbrev S1792x2880 : Shape := ⟨2, ![1792, 2880]⟩
abbrev S640x2880 : Shape := ⟨2, ![640, 2880]⟩
abbrev S1792x640 : Shape := ⟨2, ![1792, 640]⟩
abbrev S64x90 : Shape := ⟨2, ![64, 90]⟩
abbrev S64x38 : Shape := ⟨2, ![64, 38]⟩
abbrev S64x128 : Shape := ⟨2, ![64, 128]⟩
abbrev S64x128x1 : Shape := ⟨3, ![64, 128, 1]⟩
abbrev S64x64 : Shape := ⟨2, ![64, 64]⟩
abbrev S640x90 : Shape := ⟨2, ![640, 90]⟩
abbrev S256x2880 : Shape := ⟨2, ![256, 2880]⟩
abbrev S256x640 : Shape := ⟨2, ![256, 640]⟩

abbrev nBuf : Space → Nat
  | .hbm => 13
  | .vmem => 11
  | .smem => 1
  | _ => 0

abbrev bufTy : (tb : Table) → Fin (tcTables nBuf tb) → BufTy
  | .hbm, ⟨0, _⟩ => ⟨S6x256x2880, .fp8e4m3⟩
  | .hbm, ⟨1, _⟩ => ⟨S6x256x90, .i8⟩
  | .hbm, ⟨2, _⟩ => ⟨S5x5760x2880, .fp8e4m3⟩
  | .hbm, ⟨3, _⟩ => ⟨S5x5760x90, .i8⟩
  | .hbm, ⟨4, _⟩ => ⟨S5, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S5, .i32⟩
  | .hbm, ⟨10, _⟩ => ⟨S1536x2880, .fp8e4m3⟩
  | .hbm, ⟨11, _⟩ => ⟨S1536x90, .i8⟩
  | .hbm, ⟨12, _⟩ => ⟨S1536x5760, .bf16⟩
  | .local _ .vmem, ⟨0, _⟩ => ⟨S1536x2880, .fp8e4m3⟩
  | .local _ .vmem, ⟨1, _⟩ => ⟨S1536x90, .i8⟩
  | .local _ .vmem, ⟨2, _⟩ => ⟨S1x640x2880, .fp8e4m3⟩
  | .local _ .vmem, ⟨3, _⟩ => ⟨S1x640x2880, .fp8e4m3⟩
  | .local _ .vmem, ⟨4, _⟩ => ⟨S1x640x90, .i8⟩
  | .local _ .vmem, ⟨5, _⟩ => ⟨S1x640x90, .i8⟩
  | .local _ .vmem, ⟨6, _⟩ => ⟨S1536x640, .bf16⟩
  | .local _ .vmem, ⟨7, _⟩ => ⟨S1536x640, .bf16⟩
  | .local _ .vmem, ⟨8, _⟩ => ⟨S1792x2880, .bf16⟩
  | .local _ .vmem, ⟨9, _⟩ => ⟨S640x2880, .bf16⟩
  | .local _ .vmem, ⟨10, _⟩ => ⟨S1792x640, .bf16⟩
  | .local _ .smem, ⟨0, _⟩ => ⟨S6, .i32⟩
  | _, _ => ⟨S6x256x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 5], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_4 : BitVec 32 := 0#32
  let c24_i32 : BitVec 32 := 24#32
  let v16 : BitVec 32 := Scalar.addi c0_i32_4 c24_i32
  let c1_i32_5 : BitVec 32 := 1#32
  ⟨c0_i32_4, v16, c1_i32_5⟩
def k0_off1 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v20 : Index := Scalar.indexCast v19
  let c0 : Index := 0#32
  ![v20.toNat, 0]
def k0_off2 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v67 : Index := Scalar.indexCast v19
  let c0_17 : Index := 0#32
  ![v67.toNat, 0]
def k0_off3 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v72 : Index := Scalar.indexCast v19
  let c0_18 : Index := 0#32
  ![v72.toNat, 0]
def k0_off4 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v113 : Index := Scalar.indexCast v19
  let c128 : Index := 128#32
  ![v113.toNat, 128]
def k0_off5 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v118 : Index := Scalar.indexCast v19
  let c128_29 : Index := 128#32
  ![v118.toNat, 128]
def k0_off6 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v159 : Index := Scalar.indexCast v19
  let c256 : Index := 256#32
  ![v159.toNat, 256]
def k0_off7 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v164 : Index := Scalar.indexCast v19
  let c256_39 : Index := 256#32
  ![v164.toNat, 256]
def k0_off8 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v205 : Index := Scalar.indexCast v19
  let c384 : Index := 384#32
  ![v205.toNat, 384]
def k0_off9 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v210 : Index := Scalar.indexCast v19
  let c384_49 : Index := 384#32
  ![v210.toNat, 384]
def k0_off10 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v251 : Index := Scalar.indexCast v19
  let c512 : Index := 512#32
  ![v251.toNat, 512]
def k0_off11 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v256 : Index := Scalar.indexCast v19
  let c512_59 : Index := 512#32
  ![v256.toNat, 512]
def k0_off12 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v297 : Index := Scalar.indexCast v19
  let c640 : Index := 640#32
  ![v297.toNat, 640]
def k0_off13 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v302 : Index := Scalar.indexCast v19
  let c640_69 : Index := 640#32
  ![v302.toNat, 640]
def k0_off14 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v343 : Index := Scalar.indexCast v19
  let c768 : Index := 768#32
  ![v343.toNat, 768]
def k0_off15 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v348 : Index := Scalar.indexCast v19
  let c768_80 : Index := 768#32
  ![v348.toNat, 768]
def k0_off16 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v389 : Index := Scalar.indexCast v19
  let c896 : Index := 896#32
  ![v389.toNat, 896]
def k0_off17 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v394 : Index := Scalar.indexCast v19
  let c896_90 : Index := 896#32
  ![v394.toNat, 896]
def k0_off18 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v435 : Index := Scalar.indexCast v19
  let c1024 : Index := 1024#32
  ![v435.toNat, 1024]
def k0_off19 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v440 : Index := Scalar.indexCast v19
  let c1024_101 : Index := 1024#32
  ![v440.toNat, 1024]
def k0_off20 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v481 : Index := Scalar.indexCast v19
  let c1152 : Index := 1152#32
  ![v481.toNat, 1152]
def k0_off21 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v486 : Index := Scalar.indexCast v19
  let c1152_111 : Index := 1152#32
  ![v486.toNat, 1152]
def k0_off22 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v527 : Index := Scalar.indexCast v19
  let c1280 : Index := 1280#32
  ![v527.toNat, 1280]
def k0_off23 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v532 : Index := Scalar.indexCast v19
  let c1280_121 : Index := 1280#32
  ![v532.toNat, 1280]
def k0_off24 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v573 : Index := Scalar.indexCast v19
  let c1408 : Index := 1408#32
  ![v573.toNat, 1408]
def k0_off25 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v578 : Index := Scalar.indexCast v19
  let c1408_131 : Index := 1408#32
  ![v578.toNat, 1408]
def k0_off26 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v619 : Index := Scalar.indexCast v19
  let c1536 : Index := 1536#32
  ![v619.toNat, 1536]
def k0_off27 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v624 : Index := Scalar.indexCast v19
  let c1536_141 : Index := 1536#32
  ![v624.toNat, 1536]
def k0_off28 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v665 : Index := Scalar.indexCast v19
  let c1664 : Index := 1664#32
  ![v665.toNat, 1664]
def k0_off29 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v670 : Index := Scalar.indexCast v19
  let c1664_151 : Index := 1664#32
  ![v670.toNat, 1664]
def k0_off30 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v711 : Index := Scalar.indexCast v19
  let c1792 : Index := 1792#32
  ![v711.toNat, 1792]
def k0_off31 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v716 : Index := Scalar.indexCast v19
  let c1792_161 : Index := 1792#32
  ![v716.toNat, 1792]
def k0_off32 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v757 : Index := Scalar.indexCast v19
  let c1920 : Index := 1920#32
  ![v757.toNat, 1920]
def k0_off33 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v762 : Index := Scalar.indexCast v19
  let c1920_171 : Index := 1920#32
  ![v762.toNat, 1920]
def k0_off34 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v803 : Index := Scalar.indexCast v19
  let c2048 : Index := 2048#32
  ![v803.toNat, 2048]
def k0_off35 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v808 : Index := Scalar.indexCast v19
  let c2048_182 : Index := 2048#32
  ![v808.toNat, 2048]
def k0_off36 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v849 : Index := Scalar.indexCast v19
  let c2176 : Index := 2176#32
  ![v849.toNat, 2176]
def k0_off37 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v854 : Index := Scalar.indexCast v19
  let c2176_192 : Index := 2176#32
  ![v854.toNat, 2176]
def k0_off38 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v895 : Index := Scalar.indexCast v19
  let c2304 : Index := 2304#32
  ![v895.toNat, 2304]
def k0_off39 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v900 : Index := Scalar.indexCast v19
  let c2304_202 : Index := 2304#32
  ![v900.toNat, 2304]
def k0_off40 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v941 : Index := Scalar.indexCast v19
  let c2432 : Index := 2432#32
  ![v941.toNat, 2432]
def k0_off41 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v946 : Index := Scalar.indexCast v19
  let c2432_212 : Index := 2432#32
  ![v946.toNat, 2432]
def k0_off42 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v987 : Index := Scalar.indexCast v19
  let c2560 : Index := 2560#32
  ![v987.toNat, 2560]
def k0_off43 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v992 : Index := Scalar.indexCast v19
  let c2560_222 : Index := 2560#32
  ![v992.toNat, 2560]
def k0_off44 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v1033 : Index := Scalar.indexCast v19
  let c2688 : Index := 2688#32
  ![v1033.toNat, 2688]
def k0_off45 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v1038 : Index := Scalar.indexCast v19
  let c2688_232 : Index := 2688#32
  ![v1038.toNat, 2688]
def k0_off46 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v1079 : Index := Scalar.indexCast v19
  let c2816 : Index := 2816#32
  ![v1079.toNat, 2816]
def k0_off47 (k0_t1 : Fin k0_t1_loop.trips) : Fin 2 → Nat :=
  let c0_i32_8 : BitVec 32 := 0#32
  let c0_i32_4 : BitVec 32 := 0#32
  let c1_i32_5 : BitVec 32 := 1#32
  let arg11 : BitVec 32 := Scf.iv c0_i32_4 c1_i32_5 k0_t1
  let c1_i32_7 : BitVec 32 := 1#32
  let v17 : BitVec 32 := Scalar.muli arg11 c1_i32_7
  let v18 : BitVec 32 := Scalar.addi c0_i32_8 v17
  let c64_i32 : BitVec 32 := 64#32
  let v19 : BitVec 32 := Scalar.muli v18 c64_i32
  let v1085 : Index := Scalar.indexCast v19
  let c2816_242 : Index := 2816#32
  ![v1085.toNat, 2816]
def k0_off48 (i : grid0.Coords) : Fin 1 → Nat :=
  let arg1 : BitVec 32 := BitVec.ofNat 32 (i 1).val
  let v5 : Index := Scalar.indexCast arg1
  ![v5.toNat]
def k0_off49 (i : grid0.Coords) : Fin 1 → Nat :=
  let arg1 : BitVec 32 := BitVec.ofNat 32 (i 1).val
  let c1_i32 : BitVec 32 := 1#32
  let v7 : BitVec 32 := Scalar.addi arg1 c1_i32
  let v8 : Index := Scalar.indexCast v7
  ![v8.toNat]
@[reducible] def k0_t2_loop : Scf.Loop 32 :=
  let c0_i32_6 : BitVec 32 := 0#32
  let c10_i32 : BitVec 32 := 10#32
  let v16 : BitVec 32 := Scalar.addi c0_i32_6 c10_i32
  let c1_i32_7 : BitVec 32 := 1#32
  ⟨c0_i32_6, v16, c1_i32_7⟩
def k0_off50 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v52 : Index := Scalar.indexCast v49
  let c0 : Index := 0#32
  ![v52.toNat, 0]
def k0_off51 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v100 : Index := Scalar.indexCast v49
  let c0_40 : Index := 0#32
  ![v100.toNat, 0]
def k0_off52 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v147 : Index := Scalar.indexCast v49
  let c128 : Index := 128#32
  ![v147.toNat, 128]
def k0_off53 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v194 : Index := Scalar.indexCast v49
  let c256 : Index := 256#32
  ![v194.toNat, 256]
def k0_off54 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v241 : Index := Scalar.indexCast v49
  let c384 : Index := 384#32
  ![v241.toNat, 384]
def k0_off55 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v288 : Index := Scalar.indexCast v49
  let c512 : Index := 512#32
  ![v288.toNat, 512]
def k0_off56 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v335 : Index := Scalar.indexCast v49
  let c640 : Index := 640#32
  ![v335.toNat, 640]
def k0_off57 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v382 : Index := Scalar.indexCast v49
  let c768 : Index := 768#32
  ![v382.toNat, 768]
def k0_off58 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v429 : Index := Scalar.indexCast v49
  let c896 : Index := 896#32
  ![v429.toNat, 896]
def k0_off59 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v476 : Index := Scalar.indexCast v49
  let c1024 : Index := 1024#32
  ![v476.toNat, 1024]
def k0_off60 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v523 : Index := Scalar.indexCast v49
  let c1152 : Index := 1152#32
  ![v523.toNat, 1152]
def k0_off61 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v570 : Index := Scalar.indexCast v49
  let c1280 : Index := 1280#32
  ![v570.toNat, 1280]
def k0_off62 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v617 : Index := Scalar.indexCast v49
  let c1408 : Index := 1408#32
  ![v617.toNat, 1408]
def k0_off63 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v664 : Index := Scalar.indexCast v49
  let c1536 : Index := 1536#32
  ![v664.toNat, 1536]
def k0_off64 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v711 : Index := Scalar.indexCast v49
  let c1664 : Index := 1664#32
  ![v711.toNat, 1664]
def k0_off65 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v758 : Index := Scalar.indexCast v49
  let c1792 : Index := 1792#32
  ![v758.toNat, 1792]
def k0_off66 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v805 : Index := Scalar.indexCast v49
  let c1920 : Index := 1920#32
  ![v805.toNat, 1920]
def k0_off67 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v852 : Index := Scalar.indexCast v49
  let c2048 : Index := 2048#32
  ![v852.toNat, 2048]
def k0_off68 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v899 : Index := Scalar.indexCast v49
  let c2176 : Index := 2176#32
  ![v899.toNat, 2176]
def k0_off69 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v946 : Index := Scalar.indexCast v49
  let c2304 : Index := 2304#32
  ![v946.toNat, 2304]
def k0_off70 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v993 : Index := Scalar.indexCast v49
  let c2432 : Index := 2432#32
  ![v993.toNat, 2432]
def k0_off71 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v1040 : Index := Scalar.indexCast v49
  let c2560 : Index := 2560#32
  ![v1040.toNat, 2560]
def k0_off72 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v1087 : Index := Scalar.indexCast v49
  let c2688 : Index := 2688#32
  ![v1087.toNat, 2688]
def k0_off73 (k0_t2 : Fin k0_t2_loop.trips) : Fin 2 → Nat :=
  let c0_i32_27 : BitVec 32 := 0#32
  let c0_i32_6 : BitVec 32 := 0#32
  let c1_i32_7 : BitVec 32 := 1#32
  let arg11 : BitVec 32 := Scf.iv c0_i32_6 c1_i32_7 k0_t2
  let c1_i32_26 : BitVec 32 := 1#32
  let v47 : BitVec 32 := Scalar.muli arg11 c1_i32_26
  let v48 : BitVec 32 := Scalar.addi c0_i32_27 v47
  let c64_i32 : BitVec 32 := 64#32
  let v49 : BitVec 32 := Scalar.muli v48 c64_i32
  let v1134 : Index := Scalar.indexCast v49
  let c2816 : Index := 2816#32
  ![v1134.toNat, 2816]
@[reducible] def k0_t3_loop (v6 : BitVec 32) (v9 : BitVec 32) : Scf.Loop 32 :=
  let c0_i32_22 : BitVec 32 := 0#32
  let c0_i32_9 : BitVec 32 := 0#32
  let v18 : BitVec 1 := Scalar.cmpi .sgt v6 c0_i32_9
  let v19 : BitVec 32 := Scalar.extui v18
  let c0_i32_10 : BitVec 32 := 0#32
  let v20 : BitVec 1 := Scalar.cmpi .slt v6 c0_i32_10
  let v21 : BitVec 32 := Scalar.extui v20
  let v22 : BitVec 32 := Scalar.subi v19 v21
  let c16_i32 : BitVec 32 := 16#32
  let c0_i32_11 : BitVec 32 := 0#32
  let v23 : BitVec 1 := Scalar.cmpi .sgt c16_i32 c0_i32_11
  let v24 : BitVec 32 := Scalar.extui v23
  let c0_i32_12 : BitVec 32 := 0#32
  let v25 : BitVec 1 := Scalar.cmpi .slt c16_i32 c0_i32_12
  let v26 : BitVec 32 := Scalar.extui v25
  let v27 : BitVec 32 := Scalar.subi v24 v26
  let v28 : BitVec 1 := Scalar.cmpi .ne v22 v27
  let v29 : BitVec 32 := Scalar.remsi v6 c16_i32
  let c0_i32_13 : BitVec 32 := 0#32
  let v30 : BitVec 1 := Scalar.cmpi .ne v29 c0_i32_13
  let v31 : BitVec 1 := Scalar.andi v28 v30
  let v17 : BitVec 32 := Scalar.divsi v6 c16_i32
  let c1_i32_14 : BitVec 32 := 1#32
  let v32 : BitVec 32 := Scalar.subi v17 c1_i32_14
  let v33 : BitVec 32 := Scalar.select v31 v32 v17
  let c16_i32_15 : BitVec 32 := 16#32
  let v34 : BitVec 32 := Scalar.muli v33 c16_i32_15
  let v35 : BitVec 32 := Scalar.subi v9 v34
  let c255_i32 : BitVec 32 := 255#32
  let v36 : BitVec 32 := Scalar.addi v35 c255_i32
  let c256_i32 : BitVec 32 := 256#32
  let v37 : BitVec 32 := Scalar.divsi v36 c256_i32
  let c0_i32_16 : BitVec 32 := 0#32
  let v38 : BitVec 32 := Scalar.subi v37 c0_i32_16
  let c1_i32_17 : BitVec 32 := 1#32
  let c1_i32_18 : BitVec 32 := 1#32
  let v39 : BitVec 32 := Scalar.subi c1_i32_17 c1_i32_18
  let v40 : BitVec 32 := Scalar.addi v38 v39
  let c1_i32_19 : BitVec 32 := 1#32
  let v41 : BitVec 32 := Scalar.divsi v40 c1_i32_19
  let v42 : BitVec 32 := Scalar.subi v41 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_24 : BitVec 32 := 1#32
  ⟨c0_i32_22, v46, c1_i32_24⟩
def k0_cond2 (v6 : BitVec 32) (v9 : BitVec 32) : BitVec 1 :=
  let v10 : BitVec 1 := Scalar.cmpi .sgt v9 v6
  let v11 : BitVec 32 := Scalar.extui v10
  let c0_i32_2 : BitVec 32 := 0#32
  let v12 : BitVec 1 := Scalar.cmpi .ne v11 c0_i32_2
  v12

def k0_mult1 (v6 : BitVec 32) (v9 : BitVec 32) (k0_t3 : Fin (k0_t3_loop v6 v9).trips) : BitVec 32 :=
  let c0_i32_9 : BitVec 32 := 0#32
  let v18 : BitVec 1 := Scalar.cmpi .sgt v6 c0_i32_9
  let v19 : BitVec 32 := Scalar.extui v18
  let c0_i32_10 : BitVec 32 := 0#32
  let v20 : BitVec 1 := Scalar.cmpi .slt v6 c0_i32_10
  let v21 : BitVec 32 := Scalar.extui v20
  let v22 : BitVec 32 := Scalar.subi v19 v21
  let c16_i32 : BitVec 32 := 16#32
  let c0_i32_11 : BitVec 32 := 0#32
  let v23 : BitVec 1 := Scalar.cmpi .sgt c16_i32 c0_i32_11
  let v24 : BitVec 32 := Scalar.extui v23
  let c0_i32_12 : BitVec 32 := 0#32
  let v25 : BitVec 1 := Scalar.cmpi .slt c16_i32 c0_i32_12
  let v26 : BitVec 32 := Scalar.extui v25
  let v27 : BitVec 32 := Scalar.subi v24 v26
  let v28 : BitVec 1 := Scalar.cmpi .ne v22 v27
  let v29 : BitVec 32 := Scalar.remsi v6 c16_i32
  let c0_i32_13 : BitVec 32 := 0#32
  let v30 : BitVec 1 := Scalar.cmpi .ne v29 c0_i32_13
  let v31 : BitVec 1 := Scalar.andi v28 v30
  let v17 : BitVec 32 := Scalar.divsi v6 c16_i32
  let c1_i32_14 : BitVec 32 := 1#32
  let v32 : BitVec 32 := Scalar.subi v17 c1_i32_14
  let v33 : BitVec 32 := Scalar.select v31 v32 v17
  let c16_i32_15 : BitVec 32 := 16#32
  let v34 : BitVec 32 := Scalar.muli v33 c16_i32_15
  let c0_i32_21 : BitVec 32 := 0#32
  let c0_i32_22 : BitVec 32 := 0#32
  let c1_i32_24 : BitVec 32 := 1#32
  let arg11 : BitVec 32 := Scf.iv c0_i32_22 c1_i32_24 k0_t3
  let c1_i32_20 : BitVec 32 := 1#32
  let v47 : BitVec 32 := Scalar.muli arg11 c1_i32_20
  let v48 : BitVec 32 := Scalar.addi c0_i32_21 v47
  let c256_i32_26 : BitVec 32 := 256#32
  let v49 : BitVec 32 := Scalar.muli v48 c256_i32_26
  let v50 : BitVec 32 := Scalar.addi v34 v49
  v50
def k0_off74 (v6 : BitVec 32) (v9 : BitVec 32) (k0_t3 : Fin (k0_t3_loop v6 v9).trips) : Fin 2 → Nat :=
  let c0_i32_9 : BitVec 32 := 0#32
  let v18 : BitVec 1 := Scalar.cmpi .sgt v6 c0_i32_9
  let v19 : BitVec 32 := Scalar.extui v18
  let c0_i32_10 : BitVec 32 := 0#32
  let v20 : BitVec 1 := Scalar.cmpi .slt v6 c0_i32_10
  let v21 : BitVec 32 := Scalar.extui v20
  let v22 : BitVec 32 := Scalar.subi v19 v21
  let c16_i32 : BitVec 32 := 16#32
  let c0_i32_11 : BitVec 32 := 0#32
  let v23 : BitVec 1 := Scalar.cmpi .sgt c16_i32 c0_i32_11
  let v24 : BitVec 32 := Scalar.extui v23
  let c0_i32_12 : BitVec 32 := 0#32
  let v25 : BitVec 1 := Scalar.cmpi .slt c16_i32 c0_i32_12
  let v26 : BitVec 32 := Scalar.extui v25
  let v27 : BitVec 32 := Scalar.subi v24 v26
  let v28 : BitVec 1 := Scalar.cmpi .ne v22 v27
  let v29 : BitVec 32 := Scalar.remsi v6 c16_i32
  let c0_i32_13 : BitVec 32 := 0#32
  let v30 : BitVec 1 := Scalar.cmpi .ne v29 c0_i32_13
  let v31 : BitVec 1 := Scalar.andi v28 v30
  let v17 : BitVec 32 := Scalar.divsi v6 c16_i32
  let c1_i32_14 : BitVec 32 := 1#32
  let v32 : BitVec 32 := Scalar.subi v17 c1_i32_14
  let v33 : BitVec 32 := Scalar.select v31 v32 v17
  let c16_i32_15 : BitVec 32 := 16#32
  let v34 : BitVec 32 := Scalar.muli v33 c16_i32_15
  let c0_i32_21 : BitVec 32 := 0#32
  let c0_i32_22 : BitVec 32 := 0#32
  let c1_i32_24 : BitVec 32 := 1#32
  let arg11 : BitVec 32 := Scf.iv c0_i32_22 c1_i32_24 k0_t3
  let c1_i32_20 : BitVec 32 := 1#32
  let v47 : BitVec 32 := Scalar.muli arg11 c1_i32_20
  let v48 : BitVec 32 := Scalar.addi c0_i32_21 v47
  let c256_i32_26 : BitVec 32 := 256#32
  let v49 : BitVec 32 := Scalar.muli v48 c256_i32_26
  let v50 : BitVec 32 := Scalar.addi v34 v49
  let v51 : BitVec 32 := v50
  let v52 : Index := Scalar.indexCast v51
  let c0 : Index := 0#32
  ![v52.toNat, 0]
def k0_off75 (v6 : BitVec 32) (v9 : BitVec 32) (k0_t3 : Fin (k0_t3_loop v6 v9).trips) : Fin 2 → Nat :=
  let c0_i32_9 : BitVec 32 := 0#32
  let v18 : BitVec 1 := Scalar.cmpi .sgt v6 c0_i32_9
  let v19 : BitVec 32 := Scalar.extui v18
  let c0_i32_10 : BitVec 32 := 0#32
  let v20 : BitVec 1 := Scalar.cmpi .slt v6 c0_i32_10
  let v21 : BitVec 32 := Scalar.extui v20
  let v22 : BitVec 32 := Scalar.subi v19 v21
  let c16_i32 : BitVec 32 := 16#32
  let c0_i32_11 : BitVec 32 := 0#32
  let v23 : BitVec 1 := Scalar.cmpi .sgt c16_i32 c0_i32_11
  let v24 : BitVec 32 := Scalar.extui v23
  let c0_i32_12 : BitVec 32 := 0#32
  let v25 : BitVec 1 := Scalar.cmpi .slt c16_i32 c0_i32_12
  let v26 : BitVec 32 := Scalar.extui v25
  let v27 : BitVec 32 := Scalar.subi v24 v26
  let v28 : BitVec 1 := Scalar.cmpi .ne v22 v27
  let v29 : BitVec 32 := Scalar.remsi v6 c16_i32
  let c0_i32_13 : BitVec 32 := 0#32
  let v30 : BitVec 1 := Scalar.cmpi .ne v29 c0_i32_13
  let v31 : BitVec 1 := Scalar.andi v28 v30
  let v17 : BitVec 32 := Scalar.divsi v6 c16_i32
  let c1_i32_14 : BitVec 32 := 1#32
  let v32 : BitVec 32 := Scalar.subi v17 c1_i32_14
  let v33 : BitVec 32 := Scalar.select v31 v32 v17
  let c16_i32_15 : BitVec 32 := 16#32
  let v34 : BitVec 32 := Scalar.muli v33 c16_i32_15
  let c0_i32_21 : BitVec 32 := 0#32
  let c0_i32_22 : BitVec 32 := 0#32
  let c1_i32_24 : BitVec 32 := 1#32
  let arg11 : BitVec 32 := Scf.iv c0_i32_22 c1_i32_24 k0_t3
  let c1_i32_20 : BitVec 32 := 1#32
  let v47 : BitVec 32 := Scalar.muli arg11 c1_i32_20
  let v48 : BitVec 32 := Scalar.addi c0_i32_21 v47
  let c256_i32_26 : BitVec 32 := 256#32
  let v49 : BitVec 32 := Scalar.muli v48 c256_i32_26
  let v50 : BitVec 32 := Scalar.addi v34 v49
  let v51 : BitVec 32 := v50
  let v59 : Index := Scalar.indexCast v51
  let c0_29 : Index := 0#32
  ![v59.toNat, 0]
@[reducible] def k0_t4_loop (v6 : BitVec 32) (v9 : BitVec 32) : Scf.Loop 32 :=
  let c0_i32_22 : BitVec 32 := 0#32
  let c0_i32_9 : BitVec 32 := 0#32
  let v18 : BitVec 1 := Scalar.cmpi .sgt v6 c0_i32_9
  let v19 : BitVec 32 := Scalar.extui v18
  let c0_i32_10 : BitVec 32 := 0#32
  let v20 : BitVec 1 := Scalar.cmpi .slt v6 c0_i32_10
  let v21 : BitVec 32 := Scalar.extui v20
  let v22 : BitVec 32 := Scalar.subi v19 v21
  let c16_i32 : BitVec 32 := 16#32
  let c0_i32_11 : BitVec 32 := 0#32
  let v23 : BitVec 1 := Scalar.cmpi .sgt c16_i32 c0_i32_11
  let v24 : BitVec 32 := Scalar.extui v23
  let c0_i32_12 : BitVec 32 := 0#32
  let v25 : BitVec 1 := Scalar.cmpi .slt c16_i32 c0_i32_12
  let v26 : BitVec 32 := Scalar.extui v25
  let v27 : BitVec 32 := Scalar.subi v24 v26
  let v28 : BitVec 1 := Scalar.cmpi .ne v22 v27
  let v29 : BitVec 32 := Scalar.remsi v6 c16_i32
  let c0_i32_13 : BitVec 32 := 0#32
  let v30 : BitVec 1 := Scalar.cmpi .ne v29 c0_i32_13
  let v31 : BitVec 1 := Scalar.andi v28 v30
  let v17 : BitVec 32 := Scalar.divsi v6 c16_i32
  let c1_i32_14 : BitVec 32 := 1#32
  let v32 : BitVec 32 := Scalar.subi v17 c1_i32_14
  let v33 : BitVec 32 := Scalar.select v31 v32 v17
  let c16_i32_15 : BitVec 32 := 16#32
  let v34 : BitVec 32 := Scalar.muli v33 c16_i32_15
  let v35 : BitVec 32 := Scalar.subi v9 v34
  let c255_i32 : BitVec 32 := 255#32
  let v36 : BitVec 32 := Scalar.addi v35 c255_i32
  let c256_i32 : BitVec 32 := 256#32
  let v37 : BitVec 32 := Scalar.divsi v36 c256_i32
  let c0_i32_16 : BitVec 32 := 0#32
  let v38 : BitVec 32 := Scalar.subi v37 c0_i32_16
  let c1_i32_17 : BitVec 32 := 1#32
  let c1_i32_18 : BitVec 32 := 1#32
  let v39 : BitVec 32 := Scalar.subi c1_i32_17 c1_i32_18
  let v40 : BitVec 32 := Scalar.addi v38 v39
  let c1_i32_19 : BitVec 32 := 1#32
  let v41 : BitVec 32 := Scalar.divsi v40 c1_i32_19
  let v42 : BitVec 32 := Scalar.subi v41 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let v43 : BitVec 32 := Scalar.addi c0_i32_22 v42
  let c1_i32_25 : BitVec 32 := 1#32
  ⟨v46, v43, c1_i32_25⟩
def k0_mult2 (v6 : BitVec 32) (v9 : BitVec 32) (k0_t4 : Fin (k0_t4_loop v6 v9).trips) : BitVec 32 :=
  let c0_i32_9 : BitVec 32 := 0#32
  let v18 : BitVec 1 := Scalar.cmpi .sgt v6 c0_i32_9
  let v19 : BitVec 32 := Scalar.extui v18
  let c0_i32_10 : BitVec 32 := 0#32
  let v20 : BitVec 1 := Scalar.cmpi .slt v6 c0_i32_10
  let v21 : BitVec 32 := Scalar.extui v20
  let v22 : BitVec 32 := Scalar.subi v19 v21
  let c16_i32 : BitVec 32 := 16#32
  let c0_i32_11 : BitVec 32 := 0#32
  let v23 : BitVec 1 := Scalar.cmpi .sgt c16_i32 c0_i32_11
  let v24 : BitVec 32 := Scalar.extui v23
  let c0_i32_12 : BitVec 32 := 0#32
  let v25 : BitVec 1 := Scalar.cmpi .slt c16_i32 c0_i32_12
  let v26 : BitVec 32 := Scalar.extui v25
  let v27 : BitVec 32 := Scalar.subi v24 v26
  let v28 : BitVec 1 := Scalar.cmpi .ne v22 v27
  let v29 : BitVec 32 := Scalar.remsi v6 c16_i32
  let c0_i32_13 : BitVec 32 := 0#32
  let v30 : BitVec 1 := Scalar.cmpi .ne v29 c0_i32_13
  let v31 : BitVec 1 := Scalar.andi v28 v30
  let v17 : BitVec 32 := Scalar.divsi v6 c16_i32
  let c1_i32_14 : BitVec 32 := 1#32
  let v32 : BitVec 32 := Scalar.subi v17 c1_i32_14
  let v33 : BitVec 32 := Scalar.select v31 v32 v17
  let c16_i32_15 : BitVec 32 := 16#32
  let v34 : BitVec 32 := Scalar.muli v33 c16_i32_15
  let c0_i32_21 : BitVec 32 := 0#32
  let c0_i32_22 : BitVec 32 := 0#32
  let v35 : BitVec 32 := Scalar.subi v9 v34
  let c255_i32 : BitVec 32 := 255#32
  let v36 : BitVec 32 := Scalar.addi v35 c255_i32
  let c256_i32 : BitVec 32 := 256#32
  let v37 : BitVec 32 := Scalar.divsi v36 c256_i32
  let c0_i32_16 : BitVec 32 := 0#32
  let v38 : BitVec 32 := Scalar.subi v37 c0_i32_16
  let c1_i32_17 : BitVec 32 := 1#32
  let c1_i32_18 : BitVec 32 := 1#32
  let v39 : BitVec 32 := Scalar.subi c1_i32_17 c1_i32_18
  let v40 : BitVec 32 := Scalar.addi v38 v39
  let c1_i32_19 : BitVec 32 := 1#32
  let v41 : BitVec 32 := Scalar.divsi v40 c1_i32_19
  let v42 : BitVec 32 := Scalar.subi v41 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg11 : BitVec 32 := Scf.iv v46 c1_i32_25 k0_t4
  let c1_i32_20 : BitVec 32 := 1#32
  let v47 : BitVec 32 := Scalar.muli arg11 c1_i32_20
  let v48 : BitVec 32 := Scalar.addi c0_i32_21 v47
  let c256_i32_26 : BitVec 32 := 256#32
  let v49 : BitVec 32 := Scalar.muli v48 c256_i32_26
  let v50 : BitVec 32 := Scalar.addi v34 v49
  v50
def k0_off76 (v6 : BitVec 32) (v9 : BitVec 32) (k0_t4 : Fin (k0_t4_loop v6 v9).trips) : Fin 2 → Nat :=
  let c0_i32_9 : BitVec 32 := 0#32
  let v18 : BitVec 1 := Scalar.cmpi .sgt v6 c0_i32_9
  let v19 : BitVec 32 := Scalar.extui v18
  let c0_i32_10 : BitVec 32 := 0#32
  let v20 : BitVec 1 := Scalar.cmpi .slt v6 c0_i32_10
  let v21 : BitVec 32 := Scalar.extui v20
  let v22 : BitVec 32 := Scalar.subi v19 v21
  let c16_i32 : BitVec 32 := 16#32
  let c0_i32_11 : BitVec 32 := 0#32
  let v23 : BitVec 1 := Scalar.cmpi .sgt c16_i32 c0_i32_11
  let v24 : BitVec 32 := Scalar.extui v23
  let c0_i32_12 : BitVec 32 := 0#32
  let v25 : BitVec 1 := Scalar.cmpi .slt c16_i32 c0_i32_12
  let v26 : BitVec 32 := Scalar.extui v25
  let v27 : BitVec 32 := Scalar.subi v24 v26
  let v28 : BitVec 1 := Scalar.cmpi .ne v22 v27
  let v29 : BitVec 32 := Scalar.remsi v6 c16_i32
  let c0_i32_13 : BitVec 32 := 0#32
  let v30 : BitVec 1 := Scalar.cmpi .ne v29 c0_i32_13
  let v31 : BitVec 1 := Scalar.andi v28 v30
  let v17 : BitVec 32 := Scalar.divsi v6 c16_i32
  let c1_i32_14 : BitVec 32 := 1#32
  let v32 : BitVec 32 := Scalar.subi v17 c1_i32_14
  let v33 : BitVec 32 := Scalar.select v31 v32 v17
  let c16_i32_15 : BitVec 32 := 16#32
  let v34 : BitVec 32 := Scalar.muli v33 c16_i32_15
  let c0_i32_21 : BitVec 32 := 0#32
  let c0_i32_22 : BitVec 32 := 0#32
  let v35 : BitVec 32 := Scalar.subi v9 v34
  let c255_i32 : BitVec 32 := 255#32
  let v36 : BitVec 32 := Scalar.addi v35 c255_i32
  let c256_i32 : BitVec 32 := 256#32
  let v37 : BitVec 32 := Scalar.divsi v36 c256_i32
  let c0_i32_16 : BitVec 32 := 0#32
  let v38 : BitVec 32 := Scalar.subi v37 c0_i32_16
  let c1_i32_17 : BitVec 32 := 1#32
  let c1_i32_18 : BitVec 32 := 1#32
  let v39 : BitVec 32 := Scalar.subi c1_i32_17 c1_i32_18
  let v40 : BitVec 32 := Scalar.addi v38 v39
  let c1_i32_19 : BitVec 32 := 1#32
  let v41 : BitVec 32 := Scalar.divsi v40 c1_i32_19
  let v42 : BitVec 32 := Scalar.subi v41 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg11 : BitVec 32 := Scf.iv v46 c1_i32_25 k0_t4
  let c1_i32_20 : BitVec 32 := 1#32
  let v47 : BitVec 32 := Scalar.muli arg11 c1_i32_20
  let v48 : BitVec 32 := Scalar.addi c0_i32_21 v47
  let c256_i32_26 : BitVec 32 := 256#32
  let v49 : BitVec 32 := Scalar.muli v48 c256_i32_26
  let v50 : BitVec 32 := Scalar.addi v34 v49
  let v51 : BitVec 32 := v50
  let v52 : Index := Scalar.indexCast v51
  let c0 : Index := 0#32
  ![v52.toNat, 0]
def k0_off77 (v6 : BitVec 32) (v9 : BitVec 32) (k0_t4 : Fin (k0_t4_loop v6 v9).trips) : Fin 2 → Nat :=
  let c0_i32_9 : BitVec 32 := 0#32
  let v18 : BitVec 1 := Scalar.cmpi .sgt v6 c0_i32_9
  let v19 : BitVec 32 := Scalar.extui v18
  let c0_i32_10 : BitVec 32 := 0#32
  let v20 : BitVec 1 := Scalar.cmpi .slt v6 c0_i32_10
  let v21 : BitVec 32 := Scalar.extui v20
  let v22 : BitVec 32 := Scalar.subi v19 v21
  let c16_i32 : BitVec 32 := 16#32
  let c0_i32_11 : BitVec 32 := 0#32
  let v23 : BitVec 1 := Scalar.cmpi .sgt c16_i32 c0_i32_11
  let v24 : BitVec 32 := Scalar.extui v23
  let c0_i32_12 : BitVec 32 := 0#32
  let v25 : BitVec 1 := Scalar.cmpi .slt c16_i32 c0_i32_12
  let v26 : BitVec 32 := Scalar.extui v25
  let v27 : BitVec 32 := Scalar.subi v24 v26
  let v28 : BitVec 1 := Scalar.cmpi .ne v22 v27
  let v29 : BitVec 32 := Scalar.remsi v6 c16_i32
  let c0_i32_13 : BitVec 32 := 0#32
  let v30 : BitVec 1 := Scalar.cmpi .ne v29 c0_i32_13
  let v31 : BitVec 1 := Scalar.andi v28 v30
  let v17 : BitVec 32 := Scalar.divsi v6 c16_i32
  let c1_i32_14 : BitVec 32 := 1#32
  let v32 : BitVec 32 := Scalar.subi v17 c1_i32_14
  let v33 : BitVec 32 := Scalar.select v31 v32 v17
  let c16_i32_15 : BitVec 32 := 16#32
  let v34 : BitVec 32 := Scalar.muli v33 c16_i32_15
  let c0_i32_21 : BitVec 32 := 0#32
  let c0_i32_22 : BitVec 32 := 0#32
  let v35 : BitVec 32 := Scalar.subi v9 v34
  let c255_i32 : BitVec 32 := 255#32
  let v36 : BitVec 32 := Scalar.addi v35 c255_i32
  let c256_i32 : BitVec 32 := 256#32
  let v37 : BitVec 32 := Scalar.divsi v36 c256_i32
  let c0_i32_16 : BitVec 32 := 0#32
  let v38 : BitVec 32 := Scalar.subi v37 c0_i32_16
  let c1_i32_17 : BitVec 32 := 1#32
  let c1_i32_18 : BitVec 32 := 1#32
  let v39 : BitVec 32 := Scalar.subi c1_i32_17 c1_i32_18
  let v40 : BitVec 32 := Scalar.addi v38 v39
  let c1_i32_19 : BitVec 32 := 1#32
  let v41 : BitVec 32 := Scalar.divsi v40 c1_i32_19
  let v42 : BitVec 32 := Scalar.subi v41 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg11 : BitVec 32 := Scf.iv v46 c1_i32_25 k0_t4
  let c1_i32_20 : BitVec 32 := 1#32
  let v47 : BitVec 32 := Scalar.muli arg11 c1_i32_20
  let v48 : BitVec 32 := Scalar.addi c0_i32_21 v47
  let c256_i32_26 : BitVec 32 := 256#32
  let v49 : BitVec 32 := Scalar.muli v48 c256_i32_26
  let v50 : BitVec 32 := Scalar.addi v34 v49
  let v51 : BitVec 32 := v50
  let v59 : Index := Scalar.indexCast v51
  let c0_29 : Index := 0#32
  ![v59.toNat, 0]

def k0_chk1 (v6 : BitVec 32) (v9 : BitVec 32) : Prop :=
  (∀ (k0_h2 : k0_cond2 v6 v9 = 1#1), (k0_t3_loop v6 v9).OK) ∧
  (∀ k0_t3 : Fin (k0_t3_loop v6 v9).trips, ∀ (k0_h2 : k0_cond2 v6 v9 = 1#1), 16 ∣ (k0_mult1 v6 v9 k0_t3).toNat) ∧
  (∀ k0_t3 : Fin (k0_t3_loop v6 v9).trips, ∀ (k0_h2 : k0_cond2 v6 v9 = 1#1), ∀ a, (k0_off74 v6 v9 k0_t3) a + S256x2880.size a ≤ S1792x2880.size a) ∧
  (∀ k0_t3 : Fin (k0_t3_loop v6 v9).trips, ∀ (k0_h2 : k0_cond2 v6 v9 = 1#1), ∀ a, (k0_off75 v6 v9 k0_t3) a + S256x640.size a ≤ S1792x640.size a) ∧
  (∀ k0_t3 : Fin (k0_t3_loop v6 v9).trips, ∀ (k0_h2 : k0_cond2 v6 v9 = 1#1), ∀ (hinb : ∀ a, (k0_off75 v6 v9 k0_t3) a + S256x640.size a ≤ S1792x640.size a), (Rect.unit (s := S1792x640) (k0_off75 v6 v9 k0_t3) S256x640.size hinb).PackedRows (EltTy.packing .bf16)) ∧
  (∀ (k0_h2 : k0_cond2 v6 v9 = 1#1), (k0_t4_loop v6 v9).OK) ∧
  (∀ k0_t4 : Fin (k0_t4_loop v6 v9).trips, ∀ (k0_h2 : k0_cond2 v6 v9 = 1#1), 16 ∣ (k0_mult2 v6 v9 k0_t4).toNat) ∧
  (∀ k0_t4 : Fin (k0_t4_loop v6 v9).trips, ∀ (k0_h2 : k0_cond2 v6 v9 = 1#1), ∀ a, (k0_off76 v6 v9 k0_t4) a + S256x2880.size a ≤ S1792x2880.size a) ∧
  (∀ k0_t4 : Fin (k0_t4_loop v6 v9).trips, ∀ (k0_h2 : k0_cond2 v6 v9 = 1#1), ∀ a, (k0_off77 v6 v9 k0_t4) a + S256x640.size a ≤ S1792x640.size a) ∧
  (∀ k0_t4 : Fin (k0_t4_loop v6 v9).trips, ∀ (k0_h2 : k0_cond2 v6 v9 = 1#1), ∀ (hinb : ∀ a, (k0_off77 v6 v9 k0_t4) a + S256x640.size a ≤ S1792x640.size a), (Rect.unit (s := S1792x640) (k0_off77 v6 v9 k0_t4) S256x640.size hinb).PackedRows (EltTy.packing .bf16))
theorem k0_t3_ok : ∀ (v6 : BitVec 32) (v9 : BitVec 32) (k0_hw1 : k0_chk1 v6 v9), ∀ (k0_h2 : k0_cond2 v6 v9 = 1#1), (k0_t3_loop v6 v9).OK := fun v6 v9 k0_hw1 k0_h2 => k0_hw1.1 k0_h2
theorem k0_mult1_dvd : ∀ (v6 : BitVec 32) (v9 : BitVec 32) (k0_hw1 : k0_chk1 v6 v9) (k0_t3 : Fin (k0_t3_loop v6 v9).trips), ∀ (k0_h2 : k0_cond2 v6 v9 = 1#1), 16 ∣ (k0_mult1 v6 v9 k0_t3).toNat := fun v6 v9 k0_hw1 k0_t3 k0_h2 => k0_hw1.2.1 k0_t3 k0_h2
theorem k0_off74_inb : ∀ (v6 : BitVec 32) (v9 : BitVec 32) (k0_hw1 : k0_chk1 v6 v9) (k0_t3 : Fin (k0_t3_loop v6 v9).trips), ∀ (k0_h2 : k0_cond2 v6 v9 = 1#1), ∀ a, (k0_off74 v6 v9 k0_t3) a + S256x2880.size a ≤ S1792x2880.size a := fun v6 v9 k0_hw1 k0_t3 k0_h2 => k0_hw1.2.2.1 k0_t3 k0_h2
theorem k0_off75_inb : ∀ (v6 : BitVec 32) (v9 : BitVec 32) (k0_hw1 : k0_chk1 v6 v9) (k0_t3 : Fin (k0_t3_loop v6 v9).trips), ∀ (k0_h2 : k0_cond2 v6 v9 = 1#1), ∀ a, (k0_off75 v6 v9 k0_t3) a + S256x640.size a ≤ S1792x640.size a := fun v6 v9 k0_hw1 k0_t3 k0_h2 => k0_hw1.2.2.2.1 k0_t3 k0_h2
theorem k0_off75_packedbf16 : ∀ (v6 : BitVec 32) (v9 : BitVec 32) (k0_hw1 : k0_chk1 v6 v9) (k0_t3 : Fin (k0_t3_loop v6 v9).trips), ∀ (k0_h2 : k0_cond2 v6 v9 = 1#1), (Rect.unit (s := S1792x640) (k0_off75 v6 v9 k0_t3) S256x640.size (k0_off75_inb v6 v9 k0_hw1 k0_t3 k0_h2)).PackedRows (EltTy.packing .bf16) := fun v6 v9 k0_hw1 k0_t3 k0_h2 => k0_hw1.2.2.2.2.1 k0_t3 k0_h2 (k0_off75_inb v6 v9 k0_hw1 k0_t3 k0_h2)
theorem k0_t4_ok : ∀ (v6 : BitVec 32) (v9 : BitVec 32) (k0_hw1 : k0_chk1 v6 v9), ∀ (k0_h2 : k0_cond2 v6 v9 = 1#1), (k0_t4_loop v6 v9).OK := fun v6 v9 k0_hw1 k0_h2 => k0_hw1.2.2.2.2.2.1 k0_h2
theorem k0_mult2_dvd : ∀ (v6 : BitVec 32) (v9 : BitVec 32) (k0_hw1 : k0_chk1 v6 v9) (k0_t4 : Fin (k0_t4_loop v6 v9).trips), ∀ (k0_h2 : k0_cond2 v6 v9 = 1#1), 16 ∣ (k0_mult2 v6 v9 k0_t4).toNat := fun v6 v9 k0_hw1 k0_t4 k0_h2 => k0_hw1.2.2.2.2.2.2.1 k0_t4 k0_h2
theorem k0_off76_inb : ∀ (v6 : BitVec 32) (v9 : BitVec 32) (k0_hw1 : k0_chk1 v6 v9) (k0_t4 : Fin (k0_t4_loop v6 v9).trips), ∀ (k0_h2 : k0_cond2 v6 v9 = 1#1), ∀ a, (k0_off76 v6 v9 k0_t4) a + S256x2880.size a ≤ S1792x2880.size a := fun v6 v9 k0_hw1 k0_t4 k0_h2 => k0_hw1.2.2.2.2.2.2.2.1 k0_t4 k0_h2
theorem k0_off77_inb : ∀ (v6 : BitVec 32) (v9 : BitVec 32) (k0_hw1 : k0_chk1 v6 v9) (k0_t4 : Fin (k0_t4_loop v6 v9).trips), ∀ (k0_h2 : k0_cond2 v6 v9 = 1#1), ∀ a, (k0_off77 v6 v9 k0_t4) a + S256x640.size a ≤ S1792x640.size a := fun v6 v9 k0_hw1 k0_t4 k0_h2 => k0_hw1.2.2.2.2.2.2.2.2.1 k0_t4 k0_h2
theorem k0_off77_packedbf16 : ∀ (v6 : BitVec 32) (v9 : BitVec 32) (k0_hw1 : k0_chk1 v6 v9) (k0_t4 : Fin (k0_t4_loop v6 v9).trips), ∀ (k0_h2 : k0_cond2 v6 v9 = 1#1), (Rect.unit (s := S1792x640) (k0_off77 v6 v9 k0_t4) S256x640.size (k0_off77_inb v6 v9 k0_hw1 k0_t4 k0_h2)).PackedRows (EltTy.packing .bf16) := fun v6 v9 k0_hw1 k0_t4 k0_h2 => k0_hw1.2.2.2.2.2.2.2.2.2 k0_t4 k0_h2 (k0_off77_inb v6 v9 k0_hw1 k0_t4 k0_h2)

def k0_cond3 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1536x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1536x90 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x640x2880 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x90 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S6x256x2880 : Shape := ⟨3, ![6, 256, 2880]⟩
abbrev S6x256x90 : Shape := ⟨3, ![6, 256, 90]⟩
abbrev S5x5760x2880 : Shape := ⟨3, ![5, 5760, 2880]⟩
abbrev S5x5760x90 : Shape := ⟨3, ![5, 5760, 90]⟩
abbrev S5 : Shape := ⟨1, ![5]⟩
abbrev S1536x5760 : Shape := ⟨2, ![1536, 5760]⟩
abbrev S6x256x90x32 : Shape := ⟨4, ![6, 256, 90, 32]⟩
abbrev S6x256x90x1 : Shape := ⟨4, ![6, 256, 90, 1]⟩
abbrev S1536x2880 : Shape := ⟨2, ![1536, 2880]⟩
abbrev S5x5760x90x32 : Shape := ⟨4, ![5, 5760, 90, 32]⟩
abbrev S5x5760x90x1 : Shape := ⟨4, ![5, 5760, 90, 1]⟩
abbrev S5x2880x5760 : Shape := ⟨3, ![5, 2880, 5760]⟩
abbrev S1 : Shape := ⟨1, ![1]⟩
abbrev S1x2880x5760 : Shape := ⟨3, ![1, 2880, 5760]⟩
abbrev S2880x5760 : Shape := ⟨2, ![2880, 5760]⟩

abbrev nBuf : Space → Nat
  | .hbm => 6
  | .vmem => 5
  | .smem => 1
  | _ => 0

abbrev bufTy : (tb : Table) → Fin (tcTables nBuf tb) → BufTy
  | .hbm, ⟨0, _⟩ => ⟨S6x256x2880, .fp8e4m3⟩
  | .hbm, ⟨1, _⟩ => ⟨S6x256x90, .i8⟩
  | .hbm, ⟨2, _⟩ => ⟨S5x5760x2880, .fp8e4m3⟩
  | .hbm, ⟨3, _⟩ => ⟨S5x5760x90, .i8⟩
  | .hbm, ⟨4, _⟩ => ⟨S5, .i32⟩
  | .hbm, ⟨5, _⟩ => ⟨S1536x5760, .bf16⟩
  | .local _ .vmem, ⟨0, _⟩ => ⟨S6x256x2880, .fp8e4m3⟩
  | .local _ .vmem, ⟨1, _⟩ => ⟨S6x256x90, .i8⟩
  | .local _ .vmem, ⟨2, _⟩ => ⟨S5x5760x2880, .fp8e4m3⟩
  | .local _ .vmem, ⟨3, _⟩ => ⟨S5x5760x90, .i8⟩
  | .local _ .vmem, ⟨4, _⟩ => ⟨S1536x5760, .bf16⟩
  | .local _ .smem, ⟨0, _⟩ => ⟨S5, .i32⟩
  | _, _ => ⟨S6x256x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x90 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x5760x2880 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x5760x90 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x5760 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Same.lean ====
/-
  The kernel is printed twice, once for reading at floats as words and once for reading at extended reals; nothing is rewritten between
  the two, so they are one program. What is proved of the second at every reading of the floats is then true of the first.
-/
module

public import proofs.«01_k».proof.Proof.Gen.Kernel
public import proofs.«01_k».proof.Proof.Gen.KernelIdeal

@[expose] public section

set_option maxRecDepth 4000
set_option maxHeartbeats 1000000

namespace Cert.Same

open Idealize.ShloMosaic

variable {F : FTy → Type} [FloatOps F]

theorem main_eq : Cert.Kernel.main (F := F) = Cert.KernelIdeal.main (F := F) := by rfl

theorem body_eq : @Cert.Kernel.cc0__body F _ _ = @Cert.KernelIdeal.cc0__body F _ _ := by rfl

theorem pcfg_eq : Cert.Kernel.pcfg0 (F := F) = Cert.KernelIdeal.pcfg0 (F := F) := by rfl

theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => exact rfl

theorem defs_eq : Cert.Kernel.defs (F := F) = Cert.KernelIdeal.defs (F := F) :=
  congrArg (Pipeline.defs (Cert.KernelIdeal.pcfgs (F := F))) defs₀_eq

end Cert.Same
-- ==== Proof.Run.lean ====
/-
  The kernel body at one grid point, run once.

  `kernelRun` is the triple of the body at a point `i`: from the six-word table, the four input blocks, the output block and
  the three scratch buffers at any contents, the body runs to its return and leaves the four buffers it writes at the contents
  the definitions `out8`, `out9`, `out10` and `out7` name: the dequantised left operand (at the first point alone), the
  dequantised block of the right operand and the accumulator (both only where the point's group is not empty), and the output
  block (at a group loop's last point alone).
-/
module

public import proofs.«01_k».proof.Proof.Gen.KernelIdeal.Launch
public import proofs.«01_k».proof.Proof.Gen.KernelIdeal.Loops
public import proofs.«01_k».proof.Proof.Gen.KernelIdeal.Skeleton
public import Idealize.ShloMosaic.Lib.Pipeline.Frame
public import Idealize.ShloMosaic.Lib.LoopRemainder
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

section
variable (c : Dev nD) (i : grid0.Coords) (arg2 : Memref sig .tc .smem S6 .i32) (harg2 : arg2.IsWhole) (arg3 : Memref sig .tc .vmem S1536x2880 .fp8e4m3) (harg3 : arg3.IsWhole) (arg4 : Memref sig .tc .vmem S1536x90 .i8) (harg4 : arg4.IsWhole) (arg5 : Memref sig .tc .vmem S1x640x2880 .fp8e4m3) (harg5 : arg5.IsWhole) (arg6 : Memref sig .tc .vmem S1x640x90 .i8) (harg6 : arg6.IsWhole)
    (arg7 : Memref sig .tc .vmem S1536x640 .bf16) (harg7 : arg7.IsWhole) (arg8 : Memref sig .tc .vmem S1792x2880 .bf16) (harg8 : arg8.IsWhole) (arg9 : Memref sig .tc .vmem S640x2880 .bf16) (harg9 : arg9.IsWhole) (arg10 : Memref sig .tc .vmem S1792x640 .bf16) (harg10 : arg10.IsWhole)

/-- The table word that opens the point's group: the first row of the group. -/
def word6 (X2 : BufTy.Contents (Elt F) arg2.view.ty) : Elt F .i32 :=
  View.readAt (Elt F) arg2.view (Rect.unit (s := S6) (k0_off48 i) S1.size (k0_off48_inb i)).toLoadRect X2 (Shape.Idx.first (numel1_S1.symm ▸ Nat.one_pos))

/-- The table word that closes the point's group: the first row past the group. -/
def word9 (X2 : BufTy.Contents (Elt F) arg2.view.ty) : Elt F .i32 :=
  View.readAt (Elt F) arg2.view (Rect.unit (s := S6) (k0_off49 i) S1.size (k0_off49_inb i)).toLoadRect X2 (Shape.Idx.first (numel1_S1.symm ▸ Nat.one_pos))

/-- The block of the right operand's codes, as the body addresses it. -/
abbrev mv99 : Memref sig .tc .vmem S640x2880 .fp8e4m3 := (arg5.slice (Rect.unit (s := S1x640x2880) ![0, 0, 0] S1x640x2880.size inb_S1x640x2880_S1x640x2880_0_0_0) (fun _ => rfl)).squeeze S640x2880 squeezes_S1x640x2880_S640x2880
/-- The block of the right operand's scales, as the body addresses it. -/
abbrev mv51 : Memref sig .tc .vmem S640x90 .i8 := (arg6.slice (Rect.unit (s := S1x640x90) ![0, 0, 0] S1x640x90.size inb_S1x640x90_S1x640x90_0_0_0) (fun _ => rfl)).squeeze S640x90 squeezes_S1x640x90_S640x90

/-- The right operand's block of codes lies under the same elements of its buffer as the buffer itself. -/
theorem set_mv99 : (mv99 arg5).view.set = arg5.view.set := by
  have hu : (Rect.unit (s := S1x640x2880) ![0, 0, 0] S1x640x2880.size inb_S1x640x2880_S1x640x2880_0_0_0).set = Finset.univ := by
    ext x
    simp only [Rect.mem_set_unit, Finset.mem_univ, iff_true]
    intro a; exact ⟨by fin_cases a <;> exact Nat.zero_le _, lt_of_lt_of_le (x a).isLt (Nat.le_add_left _ _)⟩
  exact (View.set_reshape (arg5.view.slice _) _).trans ((arg5.view.set_slice _).trans (by rw [hu]; rfl))

/-- The right operand's block of scales lies under the same elements of its buffer as the buffer itself. -/
theorem set_mv51 : (mv51 arg6).view.set = arg6.view.set := by
  have hu : (Rect.unit (s := S1x640x90) ![0, 0, 0] S1x640x90.size inb_S1x640x90_S1x640x90_0_0_0).set = Finset.univ := by
    ext x
    simp only [Rect.mem_set_unit, Finset.mem_univ, iff_true]
    intro a; exact ⟨by fin_cases a <;> exact Nat.zero_le _, lt_of_lt_of_le (x a).isLt (Nat.le_add_left _ _)⟩
  exact (View.set_reshape (arg6.view.slice _) _).trans ((arg6.view.set_slice _).trans (by rw [hu]; rfl))

/-- What the left operand's scratch holds after the point. -/
def out8 (X3 : BufTy.Contents (Elt F) arg3.view.ty) (X4 : BufTy.Contents (Elt F) arg4.view.ty) (f8 : BufTy.Contents (Elt F) arg8.view.ty) : BufTy.Contents (Elt F) arg8.view.ty :=
  if h1 : k0_cond1 i = 1#1 then
    arg8.view.writes (Elt F) f8 (pb_k0_t1 (F := F) Variants.none c none i arg2 harg2 arg3 harg3 arg4 harg4 arg5 harg5 arg6 harg6 arg7 harg7 arg8 harg8 arg9 harg9 arg10 harg10 h1 X3 X4 (Scf.trips k0_t1_loop.lb k0_t1_loop.ub k0_t1_loop.st))
  else f8

/-- What the right operand's scratch holds after the point. -/
def out9 (v6 v9 : Elt F .i32) (hchk : k0_chk1 v6 v9) (mvA : Memref sig .tc .vmem S640x90 .i8) (hcanonA : (arg6.slice (Rect.unit (s := S1x640x90) ![0, 0, 0] S1x640x90.size inb_S1x640x90_S1x640x90_0_0_0) (fun _ => rfl)).squeeze S640x90 squeezes_S1x640x90_S640x90 = mvA) (mvB : Memref sig .tc .vmem S640x2880 .fp8e4m3) (hcanonB : (arg5.slice (Rect.unit (s := S1x640x2880) ![0, 0, 0] S1x640x2880.size inb_S1x640x2880_S1x640x2880_0_0_0) (fun _ => rfl)).squeeze S640x2880 squeezes_S1x640x2880_S640x2880 = mvB)
    (XA : BufTy.Contents (Elt F) mvA.view.ty) (XB : BufTy.Contents (Elt F) mvB.view.ty) (f9 : BufTy.Contents (Elt F) arg9.view.ty) : BufTy.Contents (Elt F) arg9.view.ty :=
  if h2 : k0_cond2 v6 v9 = 1#1 then
    arg9.view.writes (Elt F) f9 (pb_k0_t2 (F := F) Variants.none c none i arg2 harg2 arg3 harg3 arg4 harg4 arg5 harg5 arg6 harg6 arg7 harg7 arg8 harg8 arg9 harg9 arg10 harg10 v6 v9 hchk h2 mvA hcanonA mvB hcanonB XA XB (Scf.trips k0_t2_loop.lb k0_t2_loop.ub k0_t2_loop.st))
  else f9

/-- What the accumulator holds after the point. -/
def out10 (v6 v9 : Elt F .i32) (hchk : k0_chk1 v6 v9) (g8 : BufTy.Contents (Elt F) arg8.view.ty) (g9 : BufTy.Contents (Elt F) arg9.view.ty) (f10 : BufTy.Contents (Elt F) arg10.view.ty) : BufTy.Contents (Elt F) arg10.view.ty :=
  if h2 : k0_cond2 v6 v9 = 1#1 then
    arg10.view.writes (Elt F) f10 (pb_k0_t3 (F := F) Variants.none c none i arg2 harg2 arg3 harg3 arg4 harg4 arg5 harg5 arg6 harg6 arg7 harg7 arg8 harg8 arg9 harg9 arg10 harg10 v6 v9 hchk h2 g8 g9 f10 (Scf.trips (k0_t3_loop v6 v9).lb (k0_t3_loop v6 v9).ub (k0_t3_loop v6 v9).st))
  else f10

/-- What the output block holds after the point. -/
def out7 (g10 : BufTy.Contents (Elt F) arg10.view.ty) (f7 : BufTy.Contents (Elt F) arg7.view.ty) : BufTy.Contents (Elt F) arg7.view.ty :=
  if k0_cond3 i = 1#1 then
    arg7.view.writes (Elt F) f7 [⟨Rect.unit (s := S1536x640) ![0, 0] S1536x640.size inb_S1536x640_S1536x640_0_0,
      View.readAt (Elt F) arg10.view (Rect.unit (s := S1792x640) ![0, 0] S1536x640.size inb_S1792x640_S1536x640_0_0).toLoadRect g10⟩]
  else f7

set_option maxHeartbeats 4000000 in
/-- The body's triple, for any continuation, the right operand's two blocks held under names of their own. -/
theorem kernelRun_mv (q : PosShare TreeShare) (X2 : BufTy.Contents (Elt F) arg2.view.ty) (X3 : BufTy.Contents (Elt F) arg3.view.ty) (X4 : BufTy.Contents (Elt F) arg4.view.ty) (f7 : BufTy.Contents (Elt F) arg7.view.ty) (f8 : BufTy.Contents (Elt F) arg8.view.ty) (f9 : BufTy.Contents (Elt F) arg9.view.ty) (f10 : BufTy.Contents (Elt F) arg10.view.ty)
    (mvA : Memref sig .tc .vmem S640x90 .i8) (hcanonA : (arg6.slice (Rect.unit (s := S1x640x90) ![0, 0, 0] S1x640x90.size inb_S1x640x90_S1x640x90_0_0_0) (fun _ => rfl)).squeeze S640x90 squeezes_S1x640x90_S640x90 = mvA) (mvB : Memref sig .tc .vmem S640x2880 .fp8e4m3) (hcanonB : (arg5.slice (Rect.unit (s := S1x640x2880) ![0, 0, 0] S1x640x2880.size inb_S1x640x2880_S1x640x2880_0_0_0) (fun _ => rfl)).squeeze S640x2880 squeezes_S1x640x2880_S640x2880 = mvB)
    (XA : BufTy.Contents (Elt F) mvA.view.ty) (XB : BufTy.Contents (Elt F) mvB.view.ty)
    (hchk : k0_chk1 (word6 i arg2 X2) (word9 i arg2 X2)) (K : PUnit → sProp 𝕄) :
    iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (mvB.view.loc (c : Thread nD τ) ↦[mvB.view.set]{fullShare} XB) ∗ (mvA.view.loc (c : Thread nD τ) ↦[mvA.view.set]{fullShare} XA) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (∀ g7 g8 g9 g10, ⌜g8 = out8 c i arg2 harg2 arg3 harg3 arg4 harg4 arg5 harg5 arg6 harg6 arg7 harg7 arg8 harg8 arg9 harg9 arg10 harg10 X3 X4 f8 ∧ g9 = out9 c i arg2 harg2 arg3 harg3 arg4 harg4 arg5 harg5 arg6 harg6 arg7 harg7 arg8 harg8 arg9 harg9 arg10 harg10 _ _ hchk mvA hcanonA mvB hcanonB XA XB f9 ∧ g10 = out10 c i arg2 harg2 arg3 harg3 arg4 harg4 arg5 harg5 arg6 harg6 arg7 harg7 arg8 harg8 arg9 harg9 arg10 harg10 _ _ hchk g8 g9 f10 ∧ g7 = out7 i arg7 arg10 g10 f7⌝
            -∗ iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (mvB.view.loc (c : Thread nD τ) ↦[mvB.view.set]{fullShare} XB) ∗ (mvA.view.loc (c : Thread nD τ) ↦[mvA.view.set]{fullShare} XA) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10)) -∗ K ⟨⟩))
      ⊢ wp frame (wpE (defs₀ (F := F)) Variants.none c none) Set.univ (cc0__body (F := F) i arg2 harg2 arg3 harg3 arg4 harg4 arg5 harg5 arg6 harg6 arg7 harg7 arg8 harg8 arg9 harg9 arg10 harg10) K := by
  simp only [cc0__body_eq_skeleton]; unfold cc0__body_skel
  rcases Classical.em (k0_cond1 i = 1#1) with hc1 | hc1 <;>
  rcases Classical.em (k0_cond2 (word6 i arg2 X2) (word9 i arg2 X2) = 1#1) with hc2 | hc2 <;>
  rcases Classical.em (k0_cond3 i = 1#1) with hc3 | hc3
  all_goals
    simp only [out8, out9, out10, out7, hc1, hc2, hc3, dif_pos, dif_neg, if_pos, if_neg, not_false_eq_true]
    iintro ⟨H2, H3, H4, H5, H6, H7, H8, H9, H10, Hk⟩
    sl_exec
    sl_step
    ispecialize Hk $$ %_ %_ %_ %_
    iapply Hk
    · ipureintro
      exact ⟨rfl, rfl, rfl, rfl⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body's triple, for any continuation. -/
theorem kernelRun (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)
    (hchk : k0_chk1 (word6 i arg2 X2) (word9 i arg2 X2)) (K : PUnit → sProp 𝕄) :
    iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (∀ g7 g8 g9 g10, ⌜g8 = out8 c i arg2 harg2 arg3 harg3 arg4 harg4 arg5 harg5 arg6 harg6 arg7 harg7 arg8 harg8 arg9 harg9 arg10 harg10 X3 X4 f8 ∧ g9 = out9 c i arg2 harg2 arg3 harg3 arg4 harg4 arg5 harg5 arg6 harg6 arg7 harg7 arg8 harg8 arg9 harg9 arg10 harg10 _ _ hchk (mv51 arg6) rfl (mv99 arg5) rfl X6 X5 f9 ∧ g10 = out10 c i arg2 harg2 arg3 harg3 arg4 harg4 arg5 harg5 arg6 harg6 arg7 harg7 arg8 harg8 arg9 harg9 arg10 harg10 _ _ hchk g8 g9 f10 ∧ g7 = out7 i arg7 arg10 g10 f7⌝
            -∗ iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10)) -∗ K ⟨⟩))
      ⊢ wp frame (wpE (defs₀ (F := F)) Variants.none c none) Set.univ (cc0__body (F := F) i arg2 harg2 arg3 harg3 arg4 harg4 arg5 harg5 arg6 harg6 arg7 harg7 arg8 harg8 arg9 harg9 arg10 harg10) K := by
  have e5 : (arg5.view.loc (c : Thread nD τ) ↦[arg5.view.set]{fullShare} X5 : sProp 𝕄)
      = ((mv99 arg5).view.loc (c : Thread nD τ) ↦[(mv99 arg5).view.set]{fullShare} X5) := by rw [set_mv99]
  have e6 : (arg6.view.loc (c : Thread nD τ) ↦[arg6.view.set]{fullShare} X6 : sProp 𝕄)
      = ((mv51 arg6).view.loc (c : Thread nD τ) ↦[(mv51 arg6).view.set]{fullShare} X6) := by rw [set_mv51]
  rw [e5, e6]
  exact kernelRun_mv c i arg2 harg2 arg3 harg3 arg4 harg4 arg5 harg5 arg6 harg6 arg7 harg7 arg8 harg8 arg9 harg9 arg10 harg10 q X2 X3 X4 f7 f8 f9 f10 (mv51 arg6) rfl (mv99 arg5) rfl X6 X5 hchk K
end

end Cert.KernelIdeal.Hand
-- ==== Proof.Tile.lean ====
module
public import proofs.«01_k».proof.Proof.Gen.KernelIdeal.Loops
public import Idealize.ShloMosaic.Lib.Pipeline.ValueKit
public import Idealize.ShloMosaic.Lib.Pointwise
public import Idealize.ShloMosaic.Lib.Tactic

@[expose] public section

set_option maxHeartbeats 2000000
set_option maxRecDepth 4000

/-! # One block of a dequantisation loop

One trip of either dequantisation loop writes 64 rows as 23 column blocks, 22 of 128 columns and a
last one of 64. Each block is the codes of the block times the scales gathered at one scale per 32
columns. -/

namespace Cert.KernelIdeal.Hand
open Idealize.ShloMosaic hiding ix2 eq_ix2
open Idealize.ShloMosaic.ValueIdx Idealize.SL.Sem Cert.KernelIdeal Cert.KernelIdeal.Gen

variable {F : FTy → Type} [FloatOps F]

/-- The 64×128 scale block a trip gathers from: the 90 scale bytes of each row, each read as the
bfloat16 number whose exponent field is the byte, and zeros in the columns past the 90th. -/
noncomputable def scaleBlock (s : Vec F S64x90 .i8) : FVec F S64x128 .bf16 := k0_pay59 s

/-- The gather index of column block `t`: at lane `l`, `l / 32 + 4 t`. -/
noncomputable def tileIdx (t : ℕ) : IVec S64x128 32 :=
  have a : IVec S64x128 32 := iota .tc S64x128 32 [1] iota_S64x128_d1_w32
  have b : IVec S64x128 32 := divsi a (broadcast S64x128 32#32)
  have d : IVec S64x128 32 := subi (extui 32 (cmpi .sgt a (broadcast S64x128 0#32)) natLt_1_32)
    (extui 32 (cmpi .slt a (broadcast S64x128 0#32)) natLt_1_32)
  let e : BitVec 32 := Scalar.subi (Scalar.extui (Scalar.cmpi .sgt 32#32 0#32)) (Scalar.extui (Scalar.cmpi .slt 32#32 0#32))
  have f : IVec S64x128 1 := andi (cmpi .ne d (broadcast S64x128 e))
    (cmpi .ne (remsi a (broadcast S64x128 32#32)) (broadcast S64x128 0#32))
  have g : IVec S64x128 32 := addi (select f (subi b (broadcast S64x128 1#32)) b) (broadcast S64x128 (BitVec.ofNat 32 (4 * t)))
  have h : IVec S64x128 32 := select (cmpi .slt g (broadcast S64x128 0#32)) (addi g (broadcast S64x128 128#32)) g
  shapeCast S64x128 (shapeCast S64x128x1 h shapeCasts_S64x128_S64x128x1) shapeCasts_S64x128x1_S64x128

/-- The scales of column block `t`, one per column. -/
noncomputable def tileScale (t : ℕ) (S : FVec F S64x128 .bf16) : FVec F S64x128 .bf16 :=
  truncf .bf16 (dynamicGather 1 (extf .f32 S bitsLt_bf16_f32) (tileIdx t)) bitsLt_bf16_f32

/-- Column block `t` of a trip: codes times scales. -/
noncomputable def tile (t : ℕ) (S : FVec F S64x128 .bf16) (x : Vec F S64x128 .fp8e4m3) : FVec F S64x128 .bf16 :=
  shapeCast S64x128 (mulf (extf .bf16 x bitsLt_fp8e4m3_bf16) (tileScale t S)) shapeCasts_S64x128_S64x128

/-- The last column block of a trip, of 64 columns. -/
noncomputable def tileLast (t : ℕ) (S : FVec F S64x128 .bf16) (x : Vec F S64x64 .fp8e4m3) : FVec F S64x64 .bf16 :=
  shapeCast S64x64 (mulf (extf .bf16 x bitsLt_fp8e4m3_bf16)
    (extractStridedSlice S64x64 ![0, 0] (tileScale t S) slices_S64x128_o0_0_S64x64)) shapeCasts_S64x64_S64x64

/-- The word of lane `l` of `tileIdx t`. -/
def lane (t l : ℕ) : BitVec 32 :=
  let a : BitVec 32 := BitVec.ofNat 32 l
  let b : BitVec 32 := Scalar.divsi a 32#32
  let d : BitVec 32 := Scalar.subi (Scalar.extui (Scalar.cmpi .sgt a 0#32)) (Scalar.extui (Scalar.cmpi .slt a 0#32))
  let e : BitVec 32 := Scalar.subi (Scalar.extui (Scalar.cmpi .sgt 32#32 0#32)) (Scalar.extui (Scalar.cmpi .slt 32#32 0#32))
  let f : BitVec 1 := Scalar.andi (Scalar.cmpi .ne d e) (Scalar.cmpi .ne (Scalar.remsi a 32#32) 0#32)
  let g : BitVec 32 := Scalar.addi (Scalar.select f (Scalar.subi b 1#32) b) (BitVec.ofNat 32 (4 * t))
  Scalar.select (Scalar.cmpi .slt g 0#32) (Scalar.addi g 128#32) g

theorem lane_eq : ∀ t : Fin 23, ∀ l : Fin 128, (lane t.val l.val).toNat = 4 * t.val + l.val / 32 := by
  decide +kernel

theorem tileIdx_apply (t : ℕ) (j : S64x128.Idx) : tileIdx t j = lane t (j 1).val := by
  unfold tileIdx
  dsimp only
  rw [shapeCast_comp, shapeCast_self]
  unfold lane
  have h : iota .tc S64x128 32 [1] iota_S64x128_d1_w32 j = BitVec.ofNat 32 (j 1).val := by
    simp [iota]
  simp only [select, addi, subi, divsi, remsi, cmpi, andi, extui, broadcast, h]
  rfl

/-- A dequantised number: the code `x` times the scale byte `s`, the byte read as the float whose exponent field it is. -/
noncomputable def deq (x : Elt F .fp8e4m3) (s : BitVec 8) : F .bf16 :=
  FloatOps.mulf (FloatOps.extf .bf16 bitsLt_fp8e4m3_bf16 x)
    (FloatOps.truncf .bf16 bitsLt_bf16_f32 (FloatOps.extf .f32 bitsLt_bf16_f32
      (FloatOps.truncf .bf16 bitsLt_bf16_f32 (FloatOps.ofBits .f32 (Scalar.shli (s.setWidth 32) 23#32)))))

/-- Column `k` of row `r` of a dequantised block: its code times the scale of its group of 32 columns. -/
noncomputable def deqAt {R : ℕ} (X : (⟨2, ![R, 2880]⟩ : Shape).Idx → Elt F .fp8e4m3)
    (S : (⟨2, ![R, 90]⟩ : Shape).Idx → Elt F .i8) (r : Fin R) (k : Fin 2880) : F .bf16 :=
  deq (X (ix2 r k)) (S (ix2 r ⟨k.val / 32, by have := k.isLt; omega⟩))

theorem scaleBlock_apply (s : Vec F S64x90 .i8) (r : Fin 64) (l : Fin 128) (h : l.val < 90) :
    scaleBlock s (ix2 r l) = FloatOps.truncf .bf16 bitsLt_bf16_f32
      (FloatOps.ofBits .f32 (Scalar.shli (BitVec.setWidth 32 (s (ix2 r ⟨l.val, h⟩))) 23#32)) := by
  unfold scaleBlock k0_pay59
  rw [concatenate_pair_apply]
  refine (dif_pos (show ((ix2 r l : S64x128.Idx) 1).val < 90 from h)).trans ?_
  have e : (Shape.Idx.norm fun b => ⟨((ix2 r l : S64x128.Idx) (b.cast rfl)).val, by
      match b with | ⟨0, _⟩ => exact r.isLt | ⟨1, _⟩ => exact h⟩ : S64x90.Idx) = ix2 r ⟨l.val, h⟩ := by
    funext a; match a with | ⟨0, _⟩ => rfl | ⟨1, _⟩ => rfl
  exact congrArg (fun i : S64x90.Idx => FloatOps.truncf .bf16 bitsLt_bf16_f32
      (FloatOps.ofBits (F := F) .f32 (Scalar.shli (BitVec.setWidth 32 (s i)) 23#32))) e

theorem tileScale_apply (t : ℕ) (ht : t < 23) (s : Vec F S64x90 .i8) (r : Fin 64) (l : Fin 128) (h : 4 * t + l.val / 32 < 90) :
    tileScale t (scaleBlock s) (ix2 r l) = FloatOps.truncf .bf16 bitsLt_bf16_f32 (FloatOps.extf .f32 bitsLt_bf16_f32
      (FloatOps.truncf .bf16 bitsLt_bf16_f32
        (FloatOps.ofBits .f32 (Scalar.shli (BitVec.setWidth 32 (s (ix2 r ⟨4 * t + l.val / 32, h⟩))) 23#32)))) := by
  have e : (fun b : Fin 2 => if b = 1 then (⟨(tileIdx t (ix2 r l)).toNat % S64x128.size b, Nat.mod_lt _ (by
      match b with | ⟨0, _⟩ => exact (by decide : 0 < 64) | ⟨1, _⟩ => exact (by decide : 0 < 128))⟩ : Fin (S64x128.size b)) else (ix2 r l : S64x128.Idx) b)
      = ix2 r ⟨4 * t + l.val / 32, by omega⟩ := by
    have hl : (tileIdx t (ix2 r l)).toNat = 4 * t + l.val / 32 := by
      rw [tileIdx_apply]; exact lane_eq ⟨t, ht⟩ l
    funext b
    match b with
    | ⟨0, _⟩ => rfl
    | ⟨1, _⟩ =>
      apply Fin.ext
      show (tileIdx t (ix2 r l)).toNat % 128 = 4 * t + l.val / 32
      rw [hl]; omega
  unfold tileScale
  show FloatOps.truncf .bf16 bitsLt_bf16_f32 (FloatOps.extf .f32 bitsLt_bf16_f32 (scaleBlock s _)) = _
  rw [← scaleBlock_apply s r ⟨4 * t + l.val / 32, by omega⟩ h]
  exact congrArg (fun i : S64x128.Idx => FloatOps.truncf .bf16 bitsLt_bf16_f32 (FloatOps.extf .f32 bitsLt_bf16_f32
    (scaleBlock s i))) e

section
variable {κ κ' : Kind} {sp sp' : Space} {R M : ℕ}
  {v3 : View sig κ sp ⟨2, ![R, 2880]⟩ .fp8e4m3} {v4 : View sig κ' sp' ⟨2, ![R, 90]⟩ .i8}
  {X3 : v3.ty.Contents (Elt F)} {X4 : v4.ty.Contents (Elt F)} {G : (⟨2, ![M, 2880]⟩ : Shape).Idx → F .bf16}

/-- `G` holds the dequantised rows of the block read through `v3` and `v4`. -/
def IsDeq (v3 : View sig κ sp ⟨2, ![R, 2880]⟩ .fp8e4m3) (v4 : View sig κ' sp' ⟨2, ![R, 90]⟩ .i8)
    (X3 : v3.ty.Contents (Elt F)) (X4 : v4.ty.Contents (Elt F)) (G : (⟨2, ![M, 2880]⟩ : Shape).Idx → F .bf16) : Prop :=
  ∀ (r : Fin R) (hr : r.val < M) (k : Fin 2880), G (ix2 ⟨r.val, hr⟩ k) = deqAt (v3.read (Elt F) X3) (v4.read (Elt F) X4) r k

/-- The stored block of column block `t` holds the dequantised values of the places it is stored at. -/
theorem tile_piece (t : ℕ) (ht : t < 22) (hG : IsDeq v3 v4 X3 X4 G) {r0 : ℕ} {offp offc offs : Fin 2 → ℕ}
    (hp : offp = ![r0, 128 * t]) (hc : offc = ![r0, 128 * t]) (hs : offs = ![r0, 0])
    (ip : ∀ a, offp a + (![64, 128] : Fin 2 → ℕ) a ≤ (⟨2, ![M, 2880]⟩ : Shape).size a)
    (ic : ∀ a, offc a + (![64, 128] : Fin 2 → ℕ) a ≤ (⟨2, ![R, 2880]⟩ : Shape).size a)
    (is : ∀ a, offs a + (![64, 90] : Fin 2 → ℕ) a ≤ (⟨2, ![R, 90]⟩ : Shape).size a)
    (x : S64x128.Idx) :
    tile t (scaleBlock (v4.readAt (Elt F) (Rect.unit (s := ⟨2, ![R, 90]⟩) offs ![64, 90] is).toLoadRect X4))
      (v3.readAt (Elt F) (Rect.unit (s := ⟨2, ![R, 2880]⟩) offc ![64, 128] ic).toLoadRect X3) x
      = G ((Rect.unit (s := ⟨2, ![M, 2880]⟩) offp ![64, 128] ip).emb x) := by
  subst hp hc hs
  obtain ⟨r, l, rfl⟩ : ∃ (r : Fin 64) (l : Fin 128), x = ix2 r l := ⟨x 0, x 1, eq_ix2 x⟩
  have h0 := ip 0; have h1 := ic 0; have hl := l.isLt; have hr := r.isLt
  change r0 + 64 ≤ M at h0; change r0 + 64 ≤ R at h1
  have ep : (Rect.unit (s := ⟨2, ![M, 2880]⟩) ![r0, 128 * t] ![64, 128] ip).emb (ix2 r l)
      = ix2 ⟨r0 + r.val, by omega⟩ ⟨128 * t + l.val, by omega⟩ := by
    funext a
    match a with
    | ⟨0, _⟩ => exact Fin.ext (ValueKit.rect_emb_unit_val _ _ _ _ _)
    | ⟨1, _⟩ => exact Fin.ext (ValueKit.rect_emb_unit_val _ _ _ _ _)
  have ec : (Rect.unit (s := ⟨2, ![R, 2880]⟩) ![r0, 128 * t] ![64, 128] ic).emb (ix2 r l)
      = ix2 ⟨r0 + r.val, by omega⟩ ⟨128 * t + l.val, by omega⟩ := by
    funext a
    match a with
    | ⟨0, _⟩ => exact Fin.ext (ValueKit.rect_emb_unit_val _ _ _ _ _)
    | ⟨1, _⟩ => exact Fin.ext (ValueKit.rect_emb_unit_val _ _ _ _ _)
  have es : (Rect.unit (s := ⟨2, ![R, 90]⟩) ![r0, 0] ![64, 90] is).emb (ix2 r ⟨4 * t + l.val / 32, by omega⟩)
      = ix2 ⟨r0 + r.val, by omega⟩ ⟨(128 * t + l.val) / 32, by omega⟩ := by
    funext a
    match a with
    | ⟨0, _⟩ => exact Fin.ext (ValueKit.rect_emb_unit_val _ _ _ _ _)
    | ⟨1, _⟩ => exact Fin.ext ((ValueKit.rect_emb_unit_val _ _ _ _ _).trans (by
        show 0 + (4 * t + l.val / 32) = (128 * t + l.val) / 32; omega))
  rw [ep]
  refine Eq.trans ?_ (hG ⟨r0 + r.val, by omega⟩ (by show r0 + r.val < M; omega) ⟨128 * t + l.val, by omega⟩).symm
  unfold tile
  rw [shapeCast_self]
  show FloatOps.mulf (FloatOps.extf .bf16 bitsLt_fp8e4m3_bf16 _) (tileScale t (scaleBlock _) (ix2 r l)) = _
  rw [tileScale_apply t (by omega) _ r l (by omega)]
  unfold deqAt deq
  rw [← ec, ← es]
  rfl

/-- `tile_piece` where the loaded codes and scales pass a reshape to their own shape. -/
theorem tile_piece_cast (t : ℕ) (ht : t < 22) (hG : IsDeq v3 v4 X3 X4 G) {r0 : ℕ} {offp offc offs : Fin 2 → ℕ}
    (hp : offp = ![r0, 128 * t]) (hc : offc = ![r0, 128 * t]) (hs : offs = ![r0, 0])
    (ip : ∀ a, offp a + (![64, 128] : Fin 2 → ℕ) a ≤ (⟨2, ![M, 2880]⟩ : Shape).size a)
    (ic : ∀ a, offc a + (![64, 128] : Fin 2 → ℕ) a ≤ (⟨2, ![R, 2880]⟩ : Shape).size a)
    (is : ∀ a, offs a + (![64, 90] : Fin 2 → ℕ) a ≤ (⟨2, ![R, 90]⟩ : Shape).size a)
    (x : S64x128.Idx) :
    tile t (scaleBlock (shapeCast S64x90 (v4.readAt (Elt F) (Rect.unit (s := ⟨2, ![R, 90]⟩) offs ![64, 90] is).toLoadRect X4) shapeCasts_S64x90_S64x90))
      (shapeCast S64x128 (v3.readAt (Elt F) (Rect.unit (s := ⟨2, ![R, 2880]⟩) offc ![64, 128] ic).toLoadRect X3) shapeCasts_S64x128_S64x128) x
      = G ((Rect.unit (s := ⟨2, ![M, 2880]⟩) offp ![64, 128] ip).emb x) := by
  refine Eq.trans (congrArg₂ (fun (a : Vec F S64x90 .i8) (b : Vec F S64x128 .fp8e4m3) => tile t (scaleBlock a) b x)
    (shapeCast_self (s := S64x90) _ _) (shapeCast_self (s := S64x128) _ _)) ?_
  exact tile_piece t ht hG hp hc hs ip ic is x

/-- The same for the last column block, of 64 columns. -/
theorem tileLast_piece (hG : IsDeq v3 v4 X3 X4 G) {r0 : ℕ} {offp offc offs : Fin 2 → ℕ}
    (hp : offp = ![r0, 2816]) (hc : offc = ![r0, 2816]) (hs : offs = ![r0, 0])
    (ip : ∀ a, offp a + (![64, 64] : Fin 2 → ℕ) a ≤ (⟨2, ![M, 2880]⟩ : Shape).size a)
    (ic : ∀ a, offc a + (![64, 64] : Fin 2 → ℕ) a ≤ (⟨2, ![R, 2880]⟩ : Shape).size a)
    (is : ∀ a, offs a + (![64, 90] : Fin 2 → ℕ) a ≤ (⟨2, ![R, 90]⟩ : Shape).size a)
    (x : S64x64.Idx) :
    tileLast 22 (scaleBlock (v4.readAt (Elt F) (Rect.unit (s := ⟨2, ![R, 90]⟩) offs ![64, 90] is).toLoadRect X4))
      (v3.readAt (Elt F) (Rect.unit (s := ⟨2, ![R, 2880]⟩) offc ![64, 64] ic).toLoadRect X3) x
      = G ((Rect.unit (s := ⟨2, ![M, 2880]⟩) offp ![64, 64] ip).emb x) := by
  subst hp hc hs
  obtain ⟨r, l, rfl⟩ : ∃ (r : Fin 64) (l : Fin 64), x = ix2 r l := ⟨x 0, x 1, eq_ix2 x⟩
  have h0 := ip 0; have h1 := ic 0; have hl := l.isLt; have hr := r.isLt
  change r0 + 64 ≤ M at h0; change r0 + 64 ≤ R at h1
  have ep : (Rect.unit (s := ⟨2, ![M, 2880]⟩) ![r0, 2816] ![64, 64] ip).emb (ix2 r l)
      = ix2 ⟨r0 + r.val, by omega⟩ ⟨2816 + l.val, by omega⟩ := by
    funext a
    match a with
    | ⟨0, _⟩ => exact Fin.ext (ValueKit.rect_emb_unit_val _ _ _ _ _)
    | ⟨1, _⟩ => exact Fin.ext (ValueKit.rect_emb_unit_val _ _ _ _ _)
  have ec : (Rect.unit (s := ⟨2, ![R, 2880]⟩) ![r0, 2816] ![64, 64] ic).emb (ix2 r l)
      = ix2 ⟨r0 + r.val, by omega⟩ ⟨2816 + l.val, by omega⟩ := by
    funext a
    match a with
    | ⟨0, _⟩ => exact Fin.ext (ValueKit.rect_emb_unit_val _ _ _ _ _)
    | ⟨1, _⟩ => exact Fin.ext (ValueKit.rect_emb_unit_val _ _ _ _ _)
  have es : (Rect.unit (s := ⟨2, ![R, 90]⟩) ![r0, 0] ![64, 90] is).emb (ix2 r ⟨4 * 22 + l.val / 32, by omega⟩)
      = ix2 ⟨r0 + r.val, by omega⟩ ⟨(2816 + l.val) / 32, by omega⟩ := by
    funext a
    match a with
    | ⟨0, _⟩ => exact Fin.ext (ValueKit.rect_emb_unit_val _ _ _ _ _)
    | ⟨1, _⟩ => exact Fin.ext ((ValueKit.rect_emb_unit_val _ _ _ _ _).trans (by
        show 0 + (4 * 22 + l.val / 32) = (2816 + l.val) / 32; omega))
  rw [ep]
  refine Eq.trans ?_ (hG ⟨r0 + r.val, by omega⟩ (by show r0 + r.val < M; omega) ⟨2816 + l.val, by omega⟩).symm
  have ee : (fun a : Fin 2 => (⟨(![0, 0] : Fin 2 → ℕ) a + ((ix2 r l : S64x64.Idx) a).val, by
      match a with
      | ⟨0, _⟩ => show 0 + r.val < 64; omega
      | ⟨1, _⟩ => show 0 + l.val < 128; omega⟩ : Fin (S64x128.size a))) = ix2 r ⟨l.val, by omega⟩ := by
    funext a
    match a with
    | ⟨0, _⟩ => exact Fin.ext (Nat.zero_add _)
    | ⟨1, _⟩ => exact Fin.ext (Nat.zero_add _)
  unfold tileLast
  rw [shapeCast_self]
  show FloatOps.mulf (FloatOps.extf .bf16 bitsLt_fp8e4m3_bf16 _) (tileScale 22 (scaleBlock _) _) = _
  refine Eq.trans (congrArg (fun i : S64x128.Idx => FloatOps.mulf (FloatOps.extf .bf16 bitsLt_fp8e4m3_bf16
    (v3.readAt (Elt F) (Rect.unit (s := ⟨2, ![R, 2880]⟩) ![r0, 2816] ![64, 64] ic).toLoadRect X3 (ix2 r l)))
    (tileScale 22 (scaleBlock _) i)) ee) ?_
  rw [tileScale_apply 22 (by omega) _ r ⟨l.val, by omega⟩ (by show 4 * 22 + l.val / 32 < 90; omega)]
  unfold deqAt deq
  rw [← ec, ← es]
  rfl

/-- `tileLast_piece` where the loaded codes and scales pass a reshape to their own shape. -/
theorem tileLast_piece_cast (hG : IsDeq v3 v4 X3 X4 G) {r0 : ℕ} {offp offc offs : Fin 2 → ℕ}
    (hp : offp = ![r0, 2816]) (hc : offc = ![r0, 2816]) (hs : offs = ![r0, 0])
    (ip : ∀ a, offp a + (![64, 64] : Fin 2 → ℕ) a ≤ (⟨2, ![M, 2880]⟩ : Shape).size a)
    (ic : ∀ a, offc a + (![64, 64] : Fin 2 → ℕ) a ≤ (⟨2, ![R, 2880]⟩ : Shape).size a)
    (is : ∀ a, offs a + (![64, 90] : Fin 2 → ℕ) a ≤ (⟨2, ![R, 90]⟩ : Shape).size a)
    (x : S64x64.Idx) :
    tileLast 22 (scaleBlock (shapeCast S64x90 (v4.readAt (Elt F) (Rect.unit (s := ⟨2, ![R, 90]⟩) offs ![64, 90] is).toLoadRect X4) shapeCasts_S64x90_S64x90))
      (shapeCast S64x64 (v3.readAt (Elt F) (Rect.unit (s := ⟨2, ![R, 2880]⟩) offc ![64, 64] ic).toLoadRect X3) shapeCasts_S64x64_S64x64) x
      = G ((Rect.unit (s := ⟨2, ![M, 2880]⟩) offp ![64, 64] ip).emb x) := by
  refine Eq.trans (congrArg₂ (fun (a : Vec F S64x90 .i8) (b : Vec F S64x64 .fp8e4m3) => tileLast 22 (scaleBlock a) b x)
    (shapeCast_self (s := S64x90) _ _) (shapeCast_self (s := S64x64) _ _)) ?_
  exact tileLast_piece hG hp hc hs ip ic is x
end

end Cert.KernelIdeal.Hand
-- ==== Proof.Fill.lean ====
/-
  What the two dequantisation loops leave in their scratch buffers.

  A trip of either loop stores 64 whole rows; every stored block holds the dequantised values of the places it is stored at.
  So after the loop the buffer's rows are the dequantised rows.
-/
module

public import proofs.«01_k».proof.Proof.Run
public import proofs.«01_k».proof.Proof.Tile

@[expose] public section

set_option maxHeartbeats 4000000
set_option maxRecDepth 4000

namespace Cert.KernelIdeal.Hand

open Cert.KernelIdeal Cert.KernelIdeal.Gen
open Idealize.ShloMosaic hiding ix2 eq_ix2
open Idealize.ShloMosaic.ValueIdx Idealize.SL.Sem

variable {F : FTy → Type} [FloatOps F]

section
variable (𝒱 : Variants) (c : Dev nD) (bd : Option 𝒱.V) (i : grid0.Coords) (arg2 : Memref sig .tc .smem S6 .i32) (harg2 : arg2.IsWhole) (arg3 : Memref sig .tc .vmem S1536x2880 .fp8e4m3) (harg3 : arg3.IsWhole) (arg4 : Memref sig .tc .vmem S1536x90 .i8) (harg4 : arg4.IsWhole) (arg5 : Memref sig .tc .vmem S1x640x2880 .fp8e4m3) (harg5 : arg5.IsWhole) (arg6 : Memref sig .tc .vmem S1x640x90 .i8) (harg6 : arg6.IsWhole)
    (arg7 : Memref sig .tc .vmem S1536x640 .bf16) (harg7 : arg7.IsWhole) (arg8 : Memref sig .tc .vmem S1792x2880 .bf16) (harg8 : arg8.IsWhole) (arg9 : Memref sig .tc .vmem S640x2880 .bf16) (harg9 : arg9.IsWhole) (arg10 : Memref sig .tc .vmem S1792x640 .bf16) (harg10 : arg10.IsWhole)

/-- Every block a trip of the left operand's loop stores holds the dequantised values of its places. -/
theorem trip1_pieces (h : k0_cond1 i = 1#1) (X3 : BufTy.Contents (Elt F) arg3.view.ty) (X4 : BufTy.Contents (Elt F) arg4.view.ty)
    (G : (⟨2, ![1792, 2880]⟩ : Shape).Idx → F .bf16) (hG : IsDeq arg3.view arg4.view X3 X4 G) (k : Fin k0_t1_loop.trips) :
    ∀ p ∈ tripL_k0_t1 (F := F) 𝒱 c bd i arg2 harg2 arg3 harg3 arg4 harg4 arg5 harg5 arg6 harg6 arg7 harg7 arg8 harg8 arg9 harg9 arg10 harg10 h X3 X4 k,
      ∀ x : p.1.shape.Idx, p.2 x = G (p.1.emb x) := by
  unfold tripL_k0_t1
  rw [trip_k0_t1.eq_1]
  simp only [List.mem_cons, List.not_mem_nil, or_false]
  rintro p (rfl | rfl | rfl | rfl | rfl | rfl | rfl | rfl | rfl | rfl | rfl | rfl | rfl | rfl | rfl | rfl | rfl | rfl | rfl | rfl | rfl | rfl | rfl) x
  · exact tileLast_piece_cast hG (k0_off47_eq k) (k0_off46_eq k) (k0_off1_eq k) (k0_off47_inb i k h) (k0_off46_inb i k h) (k0_off1_inb i k h) x
  · exact tile_piece_cast 21 (by decide) hG (k0_off45_eq k) (k0_off44_eq k) (k0_off1_eq k) (k0_off45_inb i k h) (k0_off44_inb i k h) (k0_off1_inb i k h) x
  · exact tile_piece_cast 20 (by decide) hG (k0_off43_eq k) (k0_off42_eq k) (k0_off1_eq k) (k0_off43_inb i k h) (k0_off42_inb i k h) (k0_off1_inb i k h) x
  · exact tile_piece_cast 19 (by decide) hG (k0_off41_eq k) (k0_off40_eq k) (k0_off1_eq k) (k0_off41_inb i k h) (k0_off40_inb i k h) (k0_off1_inb i k h) x
  · exact tile_piece_cast 18 (by decide) hG (k0_off39_eq k) (k0_off38_eq k) (k0_off1_eq k) (k0_off39_inb i k h) (k0_off38_inb i k h) (k0_off1_inb i k h) x
  · exact tile_piece_cast 17 (by decide) hG (k0_off37_eq k) (k0_off36_eq k) (k0_off1_eq k) (k0_off37_inb i k h) (k0_off36_inb i k h) (k0_off1_inb i k h) x
  · exact tile_piece_cast 16 (by decide) hG (k0_off35_eq k) (k0_off34_eq k) (k0_off1_eq k) (k0_off35_inb i k h) (k0_off34_inb i k h) (k0_off1_inb i k h) x
  · exact tile_piece_cast 15 (by decide) hG (k0_off33_eq k) (k0_off32_eq k) (k0_off1_eq k) (k0_off33_inb i k h) (k0_off32_inb i k h) (k0_off1_inb i k h) x
  · exact tile_piece_cast 14 (by decide) hG (k0_off31_eq k) (k0_off30_eq k) (k0_off1_eq k) (k0_off31_inb i k h) (k0_off30_inb i k h) (k0_off1_inb i k h) x
  · exact tile_piece_cast 13 (by decide) hG (k0_off29_eq k) (k0_off28_eq k) (k0_off1_eq k) (k0_off29_inb i k h) (k0_off28_inb i k h) (k0_off1_inb i k h) x
  · exact tile_piece_cast 12 (by decide) hG (k0_off27_eq k) (k0_off26_eq k) (k0_off1_eq k) (k0_off27_inb i k h) (k0_off26_inb i k h) (k0_off1_inb i k h) x
  · exact tile_piece_cast 11 (by decide) hG (k0_off25_eq k) (k0_off24_eq k) (k0_off1_eq k) (k0_off25_inb i k h) (k0_off24_inb i k h) (k0_off1_inb i k h) x
  · exact tile_piece_cast 10 (by decide) hG (k0_off23_eq k) (k0_off22_eq k) (k0_off1_eq k) (k0_off23_inb i k h) (k0_off22_inb i k h) (k0_off1_inb i k h) x
  · exact tile_piece_cast 9 (by decide) hG (k0_off21_eq k) (k0_off20_eq k) (k0_off1_eq k) (k0_off21_inb i k h) (k0_off20_inb i k h) (k0_off1_inb i k h) x
  · exact tile_piece_cast 8 (by decide) hG (k0_off19_eq k) (k0_off18_eq k) (k0_off1_eq k) (k0_off19_inb i k h) (k0_off18_inb i k h) (k0_off1_inb i k h) x
  · exact tile_piece_cast 7 (by decide) hG (k0_off17_eq k) (k0_off16_eq k) (k0_off1_eq k) (k0_off17_inb i k h) (k0_off16_inb i k h) (k0_off1_inb i k h) x
  · exact tile_piece_cast 6 (by decide) hG (k0_off15_eq k) (k0_off14_eq k) (k0_off1_eq k) (k0_off15_inb i k h) (k0_off14_inb i k h) (k0_off1_inb i k h) x
  · exact tile_piece_cast 5 (by decide) hG (k0_off13_eq k) (k0_off12_eq k) (k0_off1_eq k) (k0_off13_inb i k h) (k0_off12_inb i k h) (k0_off1_inb i k h) x
  · exact tile_piece_cast 4 (by decide) hG (k0_off11_eq k) (k0_off10_eq k) (k0_off1_eq k) (k0_off11_inb i k h) (k0_off10_inb i k h) (k0_off1_inb i k h) x
  · exact tile_piece_cast 3 (by decide) hG (k0_off9_eq k) (k0_off8_eq k) (k0_off1_eq k) (k0_off9_inb i k h) (k0_off8_inb i k h) (k0_off1_inb i k h) x
  · exact tile_piece_cast 2 (by decide) hG (k0_off7_eq k) (k0_off6_eq k) (k0_off1_eq k) (k0_off7_inb i k h) (k0_off6_inb i k h) (k0_off1_inb i k h) x
  · exact tile_piece_cast 1 (by decide) hG (k0_off5_eq k) (k0_off4_eq k) (k0_off1_eq k) (k0_off5_inb i k h) (k0_off4_inb i k h) (k0_off1_inb i k h) x
  · exact tile_piece_cast 0 (by decide) hG (k0_off3_eq k) (k0_off2_eq k) (k0_off1_eq k) (k0_off3_inb i k h) (k0_off2_inb i k h) (k0_off1_inb i k h) x

/-- The blocks a trip of the left operand's loop stores cover its 64 rows. -/
theorem trip1_cover (h : k0_cond1 i = 1#1) (X3 : BufTy.Contents (Elt F) arg3.view.ty) (X4 : BufTy.Contents (Elt F) arg4.view.ty)
    (k : Fin k0_t1_loop.trips) (y : (⟨2, ![1792, 2880]⟩ : Shape).Idx) (h0 : 64 * k.val ≤ (y 0).val) (h1 : (y 0).val < 64 * k.val + 64) :
    ∃ p ∈ tripL_k0_t1 (F := F) 𝒱 c bd i arg2 harg2 arg3 harg3 arg4 harg4 arg5 harg5 arg6 harg6 arg7 harg7 arg8 harg8 arg9 harg9 arg10 harg10 h X3 X4 k, y ∈ p.1.set := by
  have h2 : (y 1).val < 2880 := idx2_lt1 y
  unfold tripL_k0_t1
  rw [trip_k0_t1.eq_1]
  simp only [List.mem_cons, List.not_mem_nil, or_false, exists_eq_or_imp, exists_eq_left, Rect.mem_set_unit, Fin.forall_fin_two, k0_off3_eq, k0_off5_eq, k0_off7_eq, k0_off9_eq, k0_off11_eq, k0_off13_eq, k0_off15_eq, k0_off17_eq, k0_off19_eq, k0_off21_eq, k0_off23_eq, k0_off25_eq, k0_off27_eq, k0_off29_eq, k0_off31_eq, k0_off33_eq, k0_off35_eq, k0_off37_eq, k0_off39_eq, k0_off41_eq, k0_off43_eq, k0_off45_eq, k0_off47_eq]
  simp only [Matrix.cons_val_zero, Matrix.cons_val_one]
  obtain ⟨t, ht⟩ : ∃ t, (y 1).val / 128 = t := ⟨_, rfl⟩
  have hlt : t < 23 := by omega
  interval_cases t
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (⟨⟨by omega, by omega⟩, by omega, by omega⟩))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩)))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩)))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩))))))))))))))))))
  · exact Or.inr (Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩)))))))))))))))))
  · exact Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩))))))))))))))))
  · exact Or.inr (Or.inr (Or.inr (Or.inr (Or.inr (Or.inr (Or.inr (Or.inr (Or.inr (Or.inr (Or.inr (Or.inr (Or.inr (Or.inr (Or.inr (Or.inl ⟨⟨by omega, by omega⟩, by omega, by omega⟩)))))))))))))))
  · exact Or.inr (Or.inr (Or.inr (Or.inr (Or.inr (Or.inr (Or.inr (Or.inr (Or.inr (Or.inr (Or.inr (Or.inr (Or.inr (Or.inr (Or.inl ⟨⟨by omega, by omega⟩, by omega, by omega⟩))))))))))))))
  · exact Or.inr (Or.inr (Or.inr (Or.inr (Or.inr (Or.inr (Or.inr (Or.inr (Or.inr (Or.inr (Or.inr (Or.inr (Or.inr (Or.inl ⟨⟨by omega, by omega⟩, by omega, by omega⟩)))))))))))))
  · exact Or.inr (Or.inr (Or.inr (Or.inr (Or.inr (Or.inr (Or.inr (Or.inr (Or.inr (Or.inr (Or.inr (Or.inr (Or.inl ⟨⟨by omega, by omega⟩, by omega, by omega⟩))))))))))))
  · exact Or.inr (Or.inr (Or.inr (Or.inr (Or.inr (Or.inr (Or.inr (Or.inr (Or.inr (Or.inr (Or.inr (Or.inl ⟨⟨by omega, by omega⟩, by omega, by omega⟩)))))))))))
  · exact Or.inr (Or.inr (Or.inr (Or.inr (Or.inr (Or.inr (Or.inr (Or.inr (Or.inr (Or.inr (Or.inl ⟨⟨by omega, by omega⟩, by omega, by omega⟩))))))))))
  · exact Or.inr (Or.inr (Or.inr (Or.inr (Or.inr (Or.inr (Or.inr (Or.inr (Or.inr (Or.inl ⟨⟨by omega, by omega⟩, by omega, by omega⟩)))))))))
  · exact Or.inr (Or.inr (Or.inr (Or.inr (Or.inr (Or.inr (Or.inr (Or.inr (Or.inl ⟨⟨by omega, by omega⟩, by omega, by omega⟩))))))))
  · exact Or.inr (Or.inr (Or.inr (Or.inr (Or.inr (Or.inr (Or.inr (Or.inl ⟨⟨by omega, by omega⟩, by omega, by omega⟩)))))))
  · exact Or.inr (Or.inr (Or.inr (Or.inr (Or.inr (Or.inr (Or.inl ⟨⟨by omega, by omega⟩, by omega, by omega⟩))))))
  · exact Or.inr (Or.inr (Or.inr (Or.inr (Or.inr (Or.inl ⟨⟨by omega, by omega⟩, by omega, by omega⟩)))))
  · exact Or.inr (Or.inr (Or.inr (Or.inr (Or.inl ⟨⟨by omega, by omega⟩, by omega, by omega⟩))))
  · exact Or.inr (Or.inr (Or.inr (Or.inl ⟨⟨by omega, by omega⟩, by omega, by omega⟩)))
  · exact Or.inr (Or.inr (Or.inl ⟨⟨by omega, by omega⟩, by omega, by omega⟩))
  · exact Or.inr (Or.inl ⟨⟨by omega, by omega⟩, by omega, by omega⟩)
  · exact Or.inl ⟨⟨by omega, by omega⟩, by omega, by omega⟩

/-- All the blocks stored before trip `n` hold the dequantised values of their places. -/
theorem pb1_pieces (h : k0_cond1 i = 1#1) (X3 : BufTy.Contents (Elt F) arg3.view.ty) (X4 : BufTy.Contents (Elt F) arg4.view.ty)
    (G : (⟨2, ![1792, 2880]⟩ : Shape).Idx → F .bf16) (hG : IsDeq arg3.view arg4.view X3 X4 G) :
    ∀ n : ℕ, n ≤ k0_t1_loop.trips → (∀ p ∈ pb_k0_t1 (F := F) 𝒱 c bd i arg2 harg2 arg3 harg3 arg4 harg4 arg5 harg5 arg6 harg6 arg7 harg7 arg8 harg8 arg9 harg9 arg10 harg10 h X3 X4 n, ∀ x : p.1.shape.Idx, p.2 x = G (p.1.emb x))
      ∧ ∀ y : (⟨2, ![1792, 2880]⟩ : Shape).Idx, (y 0).val < 64 * n → ∃ p ∈ pb_k0_t1 (F := F) 𝒱 c bd i arg2 harg2 arg3 harg3 arg4 harg4 arg5 harg5 arg6 harg6 arg7 harg7 arg8 harg8 arg9 harg9 arg10 harg10 h X3 X4 n, y ∈ p.1.set
  | 0, _ => ⟨fun p hp => absurd hp List.not_mem_nil, fun y hy => absurd hy (by omega)⟩
  | n + 1, hn => by
    have ih := pb1_pieces h X3 X4 G hG n (by omega)
    have e := pb_k0_t1_succ (F := F) 𝒱 c bd i arg2 harg2 arg3 harg3 arg4 harg4 arg5 harg5 arg6 harg6 arg7 harg7 arg8 harg8 arg9 harg9 arg10 harg10 h X3 X4 ⟨n, hn⟩
    dsimp only at e
    rw [e]
    refine ⟨fun p hp => ?_, fun y hy => ?_⟩
    · rcases List.mem_append.mp hp with hp | hp
      · exact trip1_pieces 𝒱 c bd i arg2 harg2 arg3 harg3 arg4 harg4 arg5 harg5 arg6 harg6 arg7 harg7 arg8 harg8 arg9 harg9 arg10 harg10 h X3 X4 G hG ⟨n, hn⟩ p hp
      · exact ih.1 p hp
    · by_cases hlt : (y 0).val < 64 * n
      · obtain ⟨p, hp, hy⟩ := ih.2 y hlt
        exact ⟨p, List.mem_append_right _ hp, hy⟩
      · obtain ⟨p, hp, hy⟩ := trip1_cover 𝒱 c bd i arg2 harg2 arg3 harg3 arg4 harg4 arg5 harg5 arg6 harg6 arg7 harg7 arg8 harg8 arg9 harg9 arg10 harg10 h X3 X4 ⟨n, hn⟩ y (by dsimp only; omega) (by dsimp only; omega)
        exact ⟨p, List.mem_append_left _ hp, hy⟩

/-- Every block a trip of the right operand's loop stores holds the dequantised values of its places. -/
theorem trip2_pieces (v6 v9 : Elt F .i32) (hchk : k0_chk1 v6 v9) (h : k0_cond2 v6 v9 = 1#1) (mvA : Memref sig .tc .vmem S640x90 .i8) (hA : (arg6.slice (Rect.unit (s := S1x640x90) ![0, 0, 0] S1x640x90.size inb_S1x640x90_S1x640x90_0_0_0) (fun _ => rfl)).squeeze S640x90 squeezes_S1x640x90_S640x90 = mvA) (mvB : Memref sig .tc .vmem S640x2880 .fp8e4m3) (hB : (arg5.slice (Rect.unit (s := S1x640x2880) ![0, 0, 0] S1x640x2880.size inb_S1x640x2880_S1x640x2880_0_0_0) (fun _ => rfl)).squeeze S640x2880 squeezes_S1x640x2880_S640x2880 = mvB) (XA : BufTy.Contents (Elt F) mvA.view.ty) (XB : BufTy.Contents (Elt F) mvB.view.ty)
    (G : (⟨2, ![640, 2880]⟩ : Shape).Idx → F .bf16) (hG : IsDeq mvB.view mvA.view XB XA G) (k : Fin k0_t2_loop.trips) :
    ∀ p ∈ tripL_k0_t2 (F := F) 𝒱 c bd i arg2 harg2 arg3 harg3 arg4 harg4 arg5 harg5 arg6 harg6 arg7 harg7 arg8 harg8 arg9 harg9 arg10 harg10 v6 v9 hchk h mvA hA mvB hB XA XB k,
      ∀ x : p.1.shape.Idx, p.2 x = G (p.1.emb x) := by
  unfold tripL_k0_t2
  rw [trip_k0_t2.eq_1]
  simp only [List.mem_cons, List.not_mem_nil, or_false]
  rintro p (rfl | rfl | rfl | rfl | rfl | rfl | rfl | rfl | rfl | rfl | rfl | rfl | rfl | rfl | rfl | rfl | rfl | rfl | rfl | rfl | rfl | rfl | rfl) x
  · exact tileLast_piece hG (k0_off73_eq k) (k0_off73_eq k) (k0_off50_eq k) (k0_off73_inb k) (k0_off73_inb k) (k0_off50_inb k) x
  · exact tile_piece 21 (by decide) hG (k0_off72_eq k) (k0_off72_eq k) (k0_off50_eq k) (k0_off72_inb k) (k0_off72_inb k) (k0_off50_inb k) x
  · exact tile_piece 20 (by decide) hG (k0_off71_eq k) (k0_off71_eq k) (k0_off50_eq k) (k0_off71_inb k) (k0_off71_inb k) (k0_off50_inb k) x
  · exact tile_piece 19 (by decide) hG (k0_off70_eq k) (k0_off70_eq k) (k0_off50_eq k) (k0_off70_inb k) (k0_off70_inb k) (k0_off50_inb k) x
  · exact tile_piece 18 (by decide) hG (k0_off69_eq k) (k0_off69_eq k) (k0_off50_eq k) (k0_off69_inb k) (k0_off69_inb k) (k0_off50_inb k) x
  · exact tile_piece 17 (by decide) hG (k0_off68_eq k) (k0_off68_eq k) (k0_off50_eq k) (k0_off68_inb k) (k0_off68_inb k) (k0_off50_inb k) x
  · exact tile_piece 16 (by decide) hG (k0_off67_eq k) (k0_off67_eq k) (k0_off50_eq k) (k0_off67_inb k) (k0_off67_inb k) (k0_off50_inb k) x
  · exact tile_piece 15 (by decide) hG (k0_off66_eq k) (k0_off66_eq k) (k0_off50_eq k) (k0_off66_inb k) (k0_off66_inb k) (k0_off50_inb k) x
  · exact tile_piece 14 (by decide) hG (k0_off65_eq k) (k0_off65_eq k) (k0_off50_eq k) (k0_off65_inb k) (k0_off65_inb k) (k0_off50_inb k) x
  · exact tile_piece 13 (by decide) hG (k0_off64_eq k) (k0_off64_eq k) (k0_off50_eq k) (k0_off64_inb k) (k0_off64_inb k) (k0_off50_inb k) x
  · exact tile_piece 12 (by decide) hG (k0_off63_eq k) (k0_off63_eq k) (k0_off50_eq k) (k0_off63_inb k) (k0_off63_inb k) (k0_off50_inb k) x
  · exact tile_piece 11 (by decide) hG (k0_off62_eq k) (k0_off62_eq k) (k0_off50_eq k) (k0_off62_inb k) (k0_off62_inb k) (k0_off50_inb k) x
  · exact tile_piece 10 (by decide) hG (k0_off61_eq k) (k0_off61_eq k) (k0_off50_eq k) (k0_off61_inb k) (k0_off61_inb k) (k0_off50_inb k) x
  · exact tile_piece 9 (by decide) hG (k0_off60_eq k) (k0_off60_eq k) (k0_off50_eq k) (k0_off60_inb k) (k0_off60_inb k) (k0_off50_inb k) x
  · exact tile_piece 8 (by decide) hG (k0_off59_eq k) (k0_off59_eq k) (k0_off50_eq k) (k0_off59_inb k) (k0_off59_inb k) (k0_off50_inb k) x
  · exact tile_piece 7 (by decide) hG (k0_off58_eq k) (k0_off58_eq k) (k0_off50_eq k) (k0_off58_inb k) (k0_off58_inb k) (k0_off50_inb k) x
  · exact tile_piece 6 (by decide) hG (k0_off57_eq k) (k0_off57_eq k) (k0_off50_eq k) (k0_off57_inb k) (k0_off57_inb k) (k0_off50_inb k) x
  · exact tile_piece 5 (by decide) hG (k0_off56_eq k) (k0_off56_eq k) (k0_off50_eq k) (k0_off56_inb k) (k0_off56_inb k) (k0_off50_inb k) x
  · exact tile_piece 4 (by decide) hG (k0_off55_eq k) (k0_off55_eq k) (k0_off50_eq k) (k0_off55_inb k) (k0_off55_inb k) (k0_off50_inb k) x
  · exact tile_piece 3 (by decide) hG (k0_off54_eq k) (k0_off54_eq k) (k0_off50_eq k) (k0_off54_inb k) (k0_off54_inb k) (k0_off50_inb k) x
  · exact tile_piece 2 (by decide) hG (k0_off53_eq k) (k0_off53_eq k) (k0_off50_eq k) (k0_off53_inb k) (k0_off53_inb k) (k0_off50_inb k) x
  · exact tile_piece 1 (by decide) hG (k0_off52_eq k) (k0_off52_eq k) (k0_off50_eq k) (k0_off52_inb k) (k0_off52_inb k) (k0_off50_inb k) x
  · exact tile_piece 0 (by decide) hG (k0_off51_eq k) (k0_off51_eq k) (k0_off50_eq k) (k0_off51_inb k) (k0_off51_inb k) (k0_off50_inb k) x

/-- The blocks a trip of the right operand's loop stores cover its 64 rows. -/
theorem trip2_cover (v6 v9 : Elt F .i32) (hchk : k0_chk1 v6 v9) (h : k0_cond2 v6 v9 = 1#1) (mvA : Memref sig .tc .vmem S640x90 .i8) (hA : (arg6.slice (Rect.unit (s := S1x640x90) ![0, 0, 0] S1x640x90.size inb_S1x640x90_S1x640x90_0_0_0) (fun _ => rfl)).squeeze S640x90 squeezes_S1x640x90_S640x90 = mvA) (mvB : Memref sig .tc .vmem S640x2880 .fp8e4m3) (hB : (arg5.slice (Rect.unit (s := S1x640x2880) ![0, 0, 0] S1x640x2880.size inb_S1x640x2880_S1x640x2880_0_0_0) (fun _ => rfl)).squeeze S640x2880 squeezes_S1x640x2880_S640x2880 = mvB) (XA : BufTy.Contents (Elt F) mvA.view.ty) (XB : BufTy.Contents (Elt F) mvB.view.ty)
    (k : Fin k0_t2_loop.trips) (y : (⟨2, ![640, 2880]⟩ : Shape).Idx) (h0 : 64 * k.val ≤ (y 0).val) (h1 : (y 0).val < 64 * k.val + 64) :
    ∃ p ∈ tripL_k0_t2 (F := F) 𝒱 c bd i arg2 harg2 arg3 harg3 arg4 harg4 arg5 harg5 arg6 harg6 arg7 harg7 arg8 harg8 arg9 harg9 arg10 harg10 v6 v9 hchk h mvA hA mvB hB XA XB k, y ∈ p.1.set := by
  have h2 : (y 1).val < 2880 := idx2_lt1 y
  unfold tripL_k0_t2
  rw [trip_k0_t2.eq_1]
  simp only [List.mem_cons, List.not_mem_nil, or_false, exists_eq_or_imp, exists_eq_left, Rect.mem_set_unit, Fin.forall_fin_two, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq]
  simp only [Matrix.cons_val_zero, Matrix.cons_val_one]
  obtain ⟨t, ht⟩ : ∃ t, (y 1).val / 128 = t := ⟨_, rfl⟩
  have hlt : t < 23 := by omega
  interval_cases t
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (⟨⟨by omega, by omega⟩, by omega, by omega⟩))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩)))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩)))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩))))))))))))))))))
  · exact Or.inr (Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩)))))))))))))))))
  · exact Or.inr (Or.inr (Or.inr (Or.inr (Or.inr (Or.inr (Or.inr (Or.inr (Or.inr (Or.inr (Or.inr (Or.inr (Or.inr (Or.inr (Or.inr (Or.inr (Or.inl ⟨⟨by omega, by omega⟩, by omega, by omega⟩))))))))))))))))
  · exact Or.inr (Or.inr (Or.inr (Or.inr (Or.inr (Or.inr (Or.inr (Or.inr (Or.inr (Or.inr (Or.inr (Or.inr (Or.inr (Or.inr (Or.inr (Or.inl ⟨⟨by omega, by omega⟩, by omega, by omega⟩)))))))))))))))
  · exact Or.inr (Or.inr (Or.inr (Or.inr (Or.inr (Or.inr (Or.inr (Or.inr (Or.inr (Or.inr (Or.inr (Or.inr (Or.inr (Or.inr (Or.inl ⟨⟨by omega, by omega⟩, by omega, by omega⟩))))))))))))))
  · exact Or.inr (Or.inr (Or.inr (Or.inr (Or.inr (Or.inr (Or.inr (Or.inr (Or.inr (Or.inr (Or.inr (Or.inr (Or.inr (Or.inl ⟨⟨by omega, by omega⟩, by omega, by omega⟩)))))))))))))
  · exact Or.inr (Or.inr (Or.inr (Or.inr (Or.inr (Or.inr (Or.inr (Or.inr (Or.inr (Or.inr (Or.inr (Or.inr (Or.inl ⟨⟨by omega, by omega⟩, by omega, by omega⟩))))))))))))
  · exact Or.inr (Or.inr (Or.inr (Or.inr (Or.inr (Or.inr (Or.inr (Or.inr (Or.inr (Or.inr (Or.inr (Or.inl ⟨⟨by omega, by omega⟩, by omega, by omega⟩)))))))))))
  · exact Or.inr (Or.inr (Or.inr (Or.inr (Or.inr (Or.inr (Or.inr (Or.inr (Or.inr (Or.inr (Or.inl ⟨⟨by omega, by omega⟩, by omega, by omega⟩))))))))))
  · exact Or.inr (Or.inr (Or.inr (Or.inr (Or.inr (Or.inr (Or.inr (Or.inr (Or.inr (Or.inl ⟨⟨by omega, by omega⟩, by omega, by omega⟩)))))))))
  · exact Or.inr (Or.inr (Or.inr (Or.inr (Or.inr (Or.inr (Or.inr (Or.inr (Or.inl ⟨⟨by omega, by omega⟩, by omega, by omega⟩))))))))
  · exact Or.inr (Or.inr (Or.inr (Or.inr (Or.inr (Or.inr (Or.inr (Or.inl ⟨⟨by omega, by omega⟩, by omega, by omega⟩)))))))
  · exact Or.inr (Or.inr (Or.inr (Or.inr (Or.inr (Or.inr (Or.inl ⟨⟨by omega, by omega⟩, by omega, by omega⟩))))))
  · exact Or.inr (Or.inr (Or.inr (Or.inr (Or.inr (Or.inl ⟨⟨by omega, by omega⟩, by omega, by omega⟩)))))
  · exact Or.inr (Or.inr (Or.inr (Or.inr (Or.inl ⟨⟨by omega, by omega⟩, by omega, by omega⟩))))
  · exact Or.inr (Or.inr (Or.inr (Or.inl ⟨⟨by omega, by omega⟩, by omega, by omega⟩)))
  · exact Or.inr (Or.inr (Or.inl ⟨⟨by omega, by omega⟩, by omega, by omega⟩))
  · exact Or.inr (Or.inl ⟨⟨by omega, by omega⟩, by omega, by omega⟩)
  · exact Or.inl ⟨⟨by omega, by omega⟩, by omega, by omega⟩

/-- All the blocks stored before trip `n` hold the dequantised values of their places. -/
theorem pb2_pieces (v6 v9 : Elt F .i32) (hchk : k0_chk1 v6 v9) (h : k0_cond2 v6 v9 = 1#1) (mvA : Memref sig .tc .vmem S640x90 .i8) (hA : (arg6.slice (Rect.unit (s := S1x640x90) ![0, 0, 0] S1x640x90.size inb_S1x640x90_S1x640x90_0_0_0) (fun _ => rfl)).squeeze S640x90 squeezes_S1x640x90_S640x90 = mvA) (mvB : Memref sig .tc .vmem S640x2880 .fp8e4m3) (hB : (arg5.slice (Rect.unit (s := S1x640x2880) ![0, 0, 0] S1x640x2880.size inb_S1x640x2880_S1x640x2880_0_0_0) (fun _ => rfl)).squeeze S640x2880 squeezes_S1x640x2880_S640x2880 = mvB) (XA : BufTy.Contents (Elt F) mvA.view.ty) (XB : BufTy.Contents (Elt F) mvB.view.ty)
    (G : (⟨2, ![640, 2880]⟩ : Shape).Idx → F .bf16) (hG : IsDeq mvB.view mvA.view XB XA G) :
    ∀ n : ℕ, n ≤ k0_t2_loop.trips → (∀ p ∈ pb_k0_t2 (F := F) 𝒱 c bd i arg2 harg2 arg3 harg3 arg4 harg4 arg5 harg5 arg6 harg6 arg7 harg7 arg8 harg8 arg9 harg9 arg10 harg10 v6 v9 hchk h mvA hA mvB hB XA XB n, ∀ x : p.1.shape.Idx, p.2 x = G (p.1.emb x))
      ∧ ∀ y : (⟨2, ![640, 2880]⟩ : Shape).Idx, (y 0).val < 64 * n → ∃ p ∈ pb_k0_t2 (F := F) 𝒱 c bd i arg2 harg2 arg3 harg3 arg4 harg4 arg5 harg5 arg6 harg6 arg7 harg7 arg8 harg8 arg9 harg9 arg10 harg10 v6 v9 hchk h mvA hA mvB hB XA XB n, y ∈ p.1.set
  | 0, _ => ⟨fun p hp => absurd hp List.not_mem_nil, fun y hy => absurd hy (by omega)⟩
  | n + 1, hn => by
    have ih := pb2_pieces v6 v9 hchk h mvA hA mvB hB XA XB G hG n (by omega)
    have e := pb_k0_t2_succ (F := F) 𝒱 c bd i arg2 harg2 arg3 harg3 arg4 harg4 arg5 harg5 arg6 harg6 arg7 harg7 arg8 harg8 arg9 harg9 arg10 harg10 v6 v9 hchk h mvA hA mvB hB XA XB ⟨n, hn⟩
    dsimp only at e
    rw [e]
    refine ⟨fun p hp => ?_, fun y hy => ?_⟩
    · rcases List.mem_append.mp hp with hp | hp
      · exact trip2_pieces 𝒱 c bd i arg2 harg2 arg3 harg3 arg4 harg4 arg5 harg5 arg6 harg6 arg7 harg7 arg8 harg8 arg9 harg9 arg10 harg10 v6 v9 hchk h mvA hA mvB hB XA XB G hG ⟨n, hn⟩ p hp
      · exact ih.1 p hp
    · by_cases hlt : (y 0).val < 64 * n
      · obtain ⟨p, hp, hy⟩ := ih.2 y hlt
        exact ⟨p, List.mem_append_right _ hp, hy⟩
      · obtain ⟨p, hp, hy⟩ := trip2_cover 𝒱 c bd i arg2 harg2 arg3 harg3 arg4 harg4 arg5 harg5 arg6 harg6 arg7 harg7 arg8 harg8 arg9 harg9 arg10 harg10 v6 v9 hchk h mvA hA mvB hB XA XB ⟨n, hn⟩ y (by dsimp only; omega) (by dsimp only; omega)
        exact ⟨p, List.mem_append_left _ hp, hy⟩

end

end Cert.KernelIdeal.Hand
-- ==== Proof.Words.lean ====
/-
  The words of the accumulation loop.

  A group's rows run from `a` to `b`, the two table words. The loop starts at the last multiple of 16 at or below `a` and takes
  chunks of 256 rows until it passes `b`. Here: those offsets and the trip count as natural numbers, and that they satisfy what
  the body assumes of them.
-/
module

public import proofs.«01_k».proof.Proof.Run

@[expose] public section

set_option maxRecDepth 4000

namespace Cert.KernelIdeal.Hand

open Cert.KernelIdeal Cert.KernelIdeal.Gen
open Idealize.ShloMosaic Idealize.SL.Sem

/-- The first row of the loop: the word `v` rounded down to a multiple of 16. -/
def baseW (v6 : BitVec 32) : BitVec 32 :=
  let d : BitVec 32 := Scalar.subi (Scalar.extui (Scalar.cmpi .sgt v6 0#32)) (Scalar.extui (Scalar.cmpi .slt v6 0#32))
  let e : BitVec 32 := Scalar.subi (Scalar.extui (Scalar.cmpi .sgt 16#32 0#32)) (Scalar.extui (Scalar.cmpi .slt 16#32 0#32))
  let f : BitVec 1 := Scalar.andi (Scalar.cmpi .ne d e) (Scalar.cmpi .ne (Scalar.remsi v6 16#32) 0#32)
  Scalar.muli (Scalar.select f (Scalar.subi (Scalar.divsi v6 16#32) 1#32) (Scalar.divsi v6 16#32)) 16#32

/-- The number of chunks of 256 rows that cover `d` rows. -/
def chunksW (d : BitVec 32) : BitVec 32 :=
  Scalar.subi (Scalar.divsi (Scalar.addi (Scalar.subi (Scalar.divsi (Scalar.addi d 255#32) 256#32) 0#32) (Scalar.subi 1#32 1#32)) 1#32) 0#32

/-- The first row of chunk `t`. -/
def rowW (v6 : BitVec 32) (t : ℕ) : BitVec 32 :=
  Scalar.addi (baseW v6) (Scalar.muli (Scalar.addi 0#32 (Scalar.muli (Scf.iv 0#32 1#32 t) 1#32)) 256#32)

theorem baseW_eq : ∀ a : Fin 1537, baseW (BitVec.ofNat 32 a.val) = BitVec.ofNat 32 (a.val / 16 * 16) := by decide +kernel

theorem chunksW_eq : ∀ d : Fin 1553, chunksW (BitVec.ofNat 32 d.val) = BitVec.ofNat 32 ((d.val + 255) / 256) := by decide +kernel

theorem rowW_eq : ∀ a : Fin 1537, ∀ t : Fin 8, rowW (BitVec.ofNat 32 a.val) t.val = BitVec.ofNat 32 (a.val / 16 * 16 + 256 * t.val) := by
  decide +kernel

theorem trips_eq : ∀ n : Fin 8, Scf.trips 0#32 (Scalar.addi 0#32 (Scalar.muli (Scalar.divsi (BitVec.ofNat 32 n.val) 1#32) 1#32)) 1#32 = n.val := by
  decide +kernel

theorem trips_ok : ∀ n : Fin 8, Scf.OK 0#32 (Scalar.addi 0#32 (Scalar.muli (Scalar.divsi (BitVec.ofNat 32 n.val) 1#32) 1#32)) 1#32 := by
  decide +kernel

theorem rest_trips : ∀ n : Fin 8, Scf.trips (Scalar.addi 0#32 (Scalar.muli (Scalar.divsi (BitVec.ofNat 32 n.val) 1#32) 1#32))
    (Scalar.addi 0#32 (BitVec.ofNat 32 n.val)) 1#32 = 0 := by
  decide +kernel

theorem rest_ok : ∀ n : Fin 8, Scf.OK (Scalar.addi 0#32 (Scalar.muli (Scalar.divsi (BitVec.ofNat 32 n.val) 1#32) 1#32))
    (Scalar.addi 0#32 (BitVec.ofNat 32 n.val)) 1#32 := by
  decide +kernel

/-- The number of chunks of a group with rows `a` to `b`. -/
def chunks (a b : ℕ) : ℕ := (b - a / 16 * 16 + 255) / 256

section
variable {a b : ℕ} (ha : a ≤ 1536) (hb : b ≤ 1536)

include ha hb in
theorem cond2_iff : k0_cond2 (BitVec.ofNat 32 a) (BitVec.ofNat 32 b) = 1#1 ↔ a < b := by
  have h : k0_cond2 (BitVec.ofNat 32 a) (BitVec.ofNat 32 b)
      = Scalar.cmpi .ne (Scalar.extui (BitVec.ofBool ((BitVec.ofNat 32 a).slt (BitVec.ofNat 32 b))) : BitVec 32) 0#32 := rfl
  have hs : (BitVec.ofNat 32 a).slt (BitVec.ofNat 32 b) = decide (a < b) := by
    have h1 : (BitVec.ofNat 32 a).toInt = a := by
      rw [BitVec.toInt_eq_toNat_of_lt] <;> rw [BitVec.toNat_ofNat] <;> omega
    have h2 : (BitVec.ofNat 32 b).toInt = b := by
      rw [BitVec.toInt_eq_toNat_of_lt] <;> rw [BitVec.toNat_ofNat] <;> omega
    simp only [BitVec.slt, h1, h2]
    simp
  rw [h, hs]
  by_cases hab : a < b
  · simp only [hab, decide_true, iff_true]; decide
  · simp only [hab, decide_false, iff_false]; decide

include ha hb in
theorem span_word (hab : a < b) : chunksW (Scalar.subi (BitVec.ofNat 32 b) (baseW (BitVec.ofNat 32 a))) = BitVec.ofNat 32 (chunks a b) := by
  rw [baseW_eq ⟨a, by omega⟩]
  have : Scalar.subi (BitVec.ofNat 32 b) (BitVec.ofNat 32 (a / 16 * 16)) = BitVec.ofNat 32 (b - a / 16 * 16) := by
    show BitVec.ofNat 32 b - BitVec.ofNat 32 (a / 16 * 16) = _
    apply BitVec.eq_of_toNat_eq
    rw [BitVec.toNat_sub, BitVec.toNat_ofNat, BitVec.toNat_ofNat, BitVec.toNat_ofNat]
    omega
  dsimp only
  rw [this]
  exact chunksW_eq ⟨b - a / 16 * 16, by omega⟩

include ha hb in
theorem t3_trips (hab : a < b) : (k0_t3_loop (BitVec.ofNat 32 a) (BitVec.ofNat 32 b)).trips = chunks a b := by
  have h : (k0_t3_loop (BitVec.ofNat 32 a) (BitVec.ofNat 32 b)).trips = Scf.trips 0#32 (Scalar.addi 0#32 (Scalar.muli (Scalar.divsi
    (chunksW (Scalar.subi (BitVec.ofNat 32 b) (baseW (BitVec.ofNat 32 a)))) 1#32) 1#32)) 1#32 := rfl
  rw [h, span_word ha hb hab]
  exact trips_eq ⟨chunks a b, by unfold chunks; omega⟩

include ha hb in
theorem t3_OK (hab : a < b) : (k0_t3_loop (BitVec.ofNat 32 a) (BitVec.ofNat 32 b)).OK := by
  show Scf.OK 0#32 (Scalar.addi 0#32 (Scalar.muli (Scalar.divsi
    (chunksW (Scalar.subi (BitVec.ofNat 32 b) (baseW (BitVec.ofNat 32 a)))) 1#32) 1#32)) 1#32
  rw [span_word ha hb hab]
  exact trips_ok ⟨chunks a b, by unfold chunks; omega⟩

include ha hb in
theorem t4_trips (hab : a < b) : (k0_t4_loop (BitVec.ofNat 32 a) (BitVec.ofNat 32 b)).trips = 0 := by
  have h : (k0_t4_loop (BitVec.ofNat 32 a) (BitVec.ofNat 32 b)).trips = Scf.trips (Scalar.addi 0#32 (Scalar.muli (Scalar.divsi
    (chunksW (Scalar.subi (BitVec.ofNat 32 b) (baseW (BitVec.ofNat 32 a)))) 1#32) 1#32)) (Scalar.addi 0#32
    (chunksW (Scalar.subi (BitVec.ofNat 32 b) (baseW (BitVec.ofNat 32 a))))) 1#32 := rfl
  rw [h, span_word ha hb hab]
  exact rest_trips ⟨chunks a b, by unfold chunks; omega⟩

include ha hb in
theorem t4_OK (hab : a < b) : (k0_t4_loop (BitVec.ofNat 32 a) (BitVec.ofNat 32 b)).OK := by
  show Scf.OK (Scalar.addi 0#32 (Scalar.muli (Scalar.divsi
    (chunksW (Scalar.subi (BitVec.ofNat 32 b) (baseW (BitVec.ofNat 32 a)))) 1#32) 1#32)) (Scalar.addi 0#32
    (chunksW (Scalar.subi (BitVec.ofNat 32 b) (baseW (BitVec.ofNat 32 a))))) 1#32
  rw [span_word ha hb hab]
  exact rest_ok ⟨chunks a b, by unfold chunks; omega⟩

include ha hb in
theorem row_nat (hab : a < b) (k : ℕ) (hk : k < chunks a b) :
    rowW (BitVec.ofNat 32 a) k = BitVec.ofNat 32 (a / 16 * 16 + 256 * k) ∧ a / 16 * 16 + 256 * k + 256 ≤ 1792 := by
  unfold chunks at hk
  exact ⟨rowW_eq ⟨a, by omega⟩ ⟨k, by omega⟩, by omega⟩

include ha hb in
theorem row_toNat (hab : a < b) (k : ℕ) (hk : k < chunks a b) : (rowW (BitVec.ofNat 32 a) k).toNat = a / 16 * 16 + 256 * k := by
  have := row_nat ha hb hab k hk
  rw [this.1, BitVec.toNat_ofNat, Nat.mod_eq_of_lt (by omega)]

include ha hb in
theorem lt_chunks (hab : a < b) (t : Fin (k0_t3_loop (BitVec.ofNat 32 a) (BitVec.ofNat 32 b)).trips) : t.val < chunks a b :=
  lt_of_lt_of_eq t.isLt (t3_trips ha hb hab)

include ha hb in
theorem off74_eq (hab : a < b) (t : Fin (k0_t3_loop (BitVec.ofNat 32 a) (BitVec.ofNat 32 b)).trips) :
    k0_off74 (BitVec.ofNat 32 a) (BitVec.ofNat 32 b) t = ![a / 16 * 16 + 256 * t.val, 0] :=
  congrArg (fun z => ![z, 0]) (row_toNat ha hb hab t.val (lt_chunks ha hb hab t))

include ha hb in
theorem off75_eq (hab : a < b) (t : Fin (k0_t3_loop (BitVec.ofNat 32 a) (BitVec.ofNat 32 b)).trips) :
    k0_off75 (BitVec.ofNat 32 a) (BitVec.ofNat 32 b) t = ![a / 16 * 16 + 256 * t.val, 0] :=
  congrArg (fun z => ![z, 0]) (row_toNat ha hb hab t.val (lt_chunks ha hb hab t))

theorem dvd_row (a k : ℕ) : 16 ∣ a / 16 * 16 + 256 * k := by omega

include ha hb in
/-- What the body assumes of the two table words holds of any two row numbers up to 1536. -/
theorem chk1 : k0_chk1 (BitVec.ofNat 32 a) (BitVec.ofNat 32 b) := by
  have hab : k0_cond2 (BitVec.ofNat 32 a) (BitVec.ofNat 32 b) = 1#1 → a < b := (cond2_iff ha hb).1
  refine ⟨fun h => t3_OK ha hb (hab h), fun t h => ?_, fun t h x => ?_, fun t h x => ?_, fun t h hinb => ?_, fun h => t4_OK ha hb (hab h),
    fun t h => (Fin.cast (t4_trips ha hb (hab h)) t).elim0, fun t h => (Fin.cast (t4_trips ha hb (hab h)) t).elim0,
    fun t h => (Fin.cast (t4_trips ha hb (hab h)) t).elim0, fun t h => (Fin.cast (t4_trips ha hb (hab h)) t).elim0⟩
  · exact (row_toNat ha hb (hab h) t.val (lt_chunks ha hb (hab h) t)) ▸ dvd_row a t.val
  · rw [off74_eq ha hb (hab h) t]
    have := (row_nat ha hb (hab h) t.val (lt_chunks ha hb (hab h) t)).2
    generalize a / 16 * 16 + 256 * t.val = m at this
    match x with
    | ⟨0, _⟩ => exact this
    | ⟨1, _⟩ => exact (by decide : 0 + 2880 ≤ 2880)
  · rw [off75_eq ha hb (hab h) t]
    have := (row_nat ha hb (hab h) t.val (lt_chunks ha hb (hab h) t)).2
    generalize a / 16 * 16 + 256 * t.val = m at this
    match x with
    | ⟨0, _⟩ => exact this
    | ⟨1, _⟩ => exact (by decide : 0 + 640 ≤ 640)
  · have e := off75_eq ha hb (hab h) t
    generalize k0_off75 (BitVec.ofNat 32 a) (BitVec.ofNat 32 b) t = o at e hinb
    have hd := dvd_row a t.val
    generalize a / 16 * 16 + 256 * t.val = m at e hd
    subst e
    have hd2 : 2 ∣ m := Dvd.dvd.trans (by decide) hd
    have hp : EltTy.packing .bf16 = 2 := by decide
    rw [hp]
    have hr : S1792x640.rowAx (by decide) = (0 : Fin 2) := by decide
    refine Or.inr ⟨(by decide : 2 ≤ 2), rfl, Or.inl ⟨?_, ?_⟩⟩
    · rw [hr]; exact hd2
    · rw [hr]; exact (by decide : 2 ∣ 256)

end

end Cert.KernelIdeal.Hand
-- ==== Proof.Acc.lean ====
/-
  What the accumulation loop leaves in its scratch buffer.

  A trip replaces 256 rows: a row before the group keeps its value, any other row becomes the product of the chunk's rows with
  the right operand's block. `Q r y v` is any property of the value `v` at row `r` and column `y` that survives the round trip
  to the wide format and that the products of the group's own rows have: after the loop every row before the group's end has it.
-/
module

public import proofs.«01_k».proof.Proof.Words
public import Idealize.ShloMosaic.Lib.ValueIdx
public import Idealize.ShloMosaic.Lib.WritesUnit
public import Idealize.ShloMosaic.Lib.Pipeline.ValueKit

@[expose] public section

set_option maxHeartbeats 1000000
set_option maxRecDepth 4000

namespace Cert.KernelIdeal.Hand

open Cert.KernelIdeal Cert.KernelIdeal.Gen
open Idealize.ShloMosaic hiding ix2 eq_ix2
open Idealize.ShloMosaic.ValueIdx Idealize.SL.Sem

variable {F : FTy → Type} [FloatOps F]

/-- The product of a chunk's rows with the right operand's block. -/
noncomputable def chunkDot (v53 : Vec F S256x2880 .bf16) (v54 : Vec F S640x2880 .bf16) : FVec F S256x640 .f32 :=
  matmul dot_S256x2880_S640x2880_S256x640_1_1_0_0_n_n none v53 v54 (constant S256x640 .f32 0x00000000#32)

section
variable {a b : ℕ} (ha : a ≤ 1536) (hb : b ≤ 1536)

include ha hb in
/-- The stored value at a place: a row before the group keeps its value, any other is the product. -/
theorem pay126_apply (hab : a < b) (t : Fin (k0_t3_loop (BitVec.ofNat 32 a) (BitVec.ofNat 32 b)).trips) (v53 : Vec F S256x2880 .bf16)
    (v54 : Vec F S640x2880 .bf16) (v60 : Vec F S256x640 .bf16) (j : S256x640.Idx) :
    k0_pay126 (BitVec.ofNat 32 a) (BitVec.ofNat 32 b) t v53 v54 v60 j
      = if a / 16 * 16 + 256 * t.val + (j 0).val < a then FloatOps.truncf .bf16 bitsLt_bf16_f32 (FloatOps.extf .f32 bitsLt_bf16_f32 (v60 j))
        else FloatOps.truncf .bf16 bitsLt_bf16_f32 (chunkDot v53 v54 j) := by
  have h : k0_pay126 (BitVec.ofNat 32 a) (BitVec.ofNat 32 b) t v53 v54 v60
      = shapeCast S256x640 (truncf .bf16 (select (cmpi .slt (addi (iota .tc S256x640 32 [0] iota_S256x640_d0_w32)
          (broadcast S256x640 (rowW (BitVec.ofNat 32 a) t.val))) (broadcast S256x640 (BitVec.ofNat 32 a : BitVec 32)))
          (extf .f32 v60 bitsLt_bf16_f32) (chunkDot v53 v54)) bitsLt_bf16_f32) shapeCasts_S256x640_S256x640 := rfl
  rw [h, shapeCast_self]
  have hi : iota .tc S256x640 32 [0] iota_S256x640_d0_w32 j = BitVec.ofNat 32 (j 0).val := by
    simp [iota]
  have hs : Scalar.cmpi .slt (Scalar.addi (BitVec.ofNat 32 (j 0).val) (rowW (BitVec.ofNat 32 a) t.val)) (BitVec.ofNat 32 a)
      = BitVec.ofBool (decide (a / 16 * 16 + 256 * t.val + (j 0).val < a)) := by
    have hr := row_nat ha hb hab t.val (lt_chunks ha hb hab t)
    have hj : (j 0).val < 256 := idx2_lt0 j
    rw [hr.1]
    generalize a / 16 * 16 + 256 * t.val = m at hr
    have h1 : (Scalar.addi (BitVec.ofNat 32 (j 0).val) (BitVec.ofNat 32 m)).toInt = ((m + (j 0).val : ℕ) : ℤ) := by
      show (BitVec.ofNat 32 (j 0).val + BitVec.ofNat 32 m).toInt = _
      rw [← BitVec.ofNat_add, BitVec.toInt_eq_toNat_of_lt] <;> rw [BitVec.toNat_ofNat] <;> omega
    have h2 : (BitVec.ofNat 32 a).toInt = a := by
      rw [BitVec.toInt_eq_toNat_of_lt] <;> rw [BitVec.toNat_ofNat] <;> omega
    show BitVec.ofBool (BitVec.slt _ _) = _
    simp only [BitVec.slt, h1, h2]
    exact congrArg BitVec.ofBool (decide_eq_decide.mpr Int.ofNat_lt)
  show FloatOps.truncf .bf16 bitsLt_bf16_f32 (Scalar.select (Scalar.cmpi .slt (Scalar.addi (iota .tc S256x640 32 [0] iota_S256x640_d0_w32 j)
    (rowW (BitVec.ofNat 32 a) t.val)) (BitVec.ofNat 32 a)) (FloatOps.extf .f32 bitsLt_bf16_f32 (v60 j)) (chunkDot v53 v54 j)) = _
  rw [hi, hs]
  by_cases hlt : a / 16 * 16 + 256 * t.val + (j 0).val < a
  · rw [if_pos hlt, decide_eq_true hlt]; rfl
  · rw [if_neg hlt, decide_eq_false hlt]; rfl

end

/-- A place of a rectangle of whole rows, in the buffer. -/
theorem rows_idx {N w R : ℕ} {off : Fin 2 → ℕ} {m : ℕ} (hoff : off = ![m, 0])
    (inb : ∀ x, off x + (![w, R] : Fin 2 → ℕ) x ≤ (⟨2, ![N, R]⟩ : Shape).size x) (j : Fin w) (k : Fin R) (h : m + j.val < N) :
    (Rect.unit (s := ⟨2, ![N, R]⟩) off ![w, R] inb).toLoadRect.idx (ix2 j k) = ix2 ⟨m + j.val, h⟩ k := by
  subst hoff
  funext x
  apply Fin.ext
  match x with
  | ⟨0, _⟩ => show m + 1 * j.val = m + j.val; omega
  | ⟨1, _⟩ => show 0 + 1 * k.val = k.val; omega

section
variable (𝒱 : Variants) (c : Dev nD) (bd : Option 𝒱.V) (i : grid0.Coords) (arg2 : Memref sig .tc .smem S6 .i32) (harg2 : arg2.IsWhole) (arg3 : Memref sig .tc .vmem S1536x2880 .fp8e4m3) (harg3 : arg3.IsWhole) (arg4 : Memref sig .tc .vmem S1536x90 .i8) (harg4 : arg4.IsWhole) (arg5 : Memref sig .tc .vmem S1x640x2880 .fp8e4m3) (harg5 : arg5.IsWhole) (arg6 : Memref sig .tc .vmem S1x640x90 .i8) (harg6 : arg6.IsWhole)
    (arg7 : Memref sig .tc .vmem S1536x640 .bf16) (harg7 : arg7.IsWhole) (arg8 : Memref sig .tc .vmem S1792x2880 .bf16) (harg8 : arg8.IsWhole) (arg9 : Memref sig .tc .vmem S640x2880 .bf16) (harg9 : arg9.IsWhole) (arg10 : Memref sig .tc .vmem S1792x640 .bf16) (harg10 : arg10.IsWhole)

/-- The invariant of the accumulation loop. -/
theorem pb3_holds (a b : ℕ) (ha : a ≤ 1536) (hb : b ≤ 1536) (hchk : k0_chk1 (BitVec.ofNat 32 a) (BitVec.ofNat 32 b))
    (h2 : k0_cond2 (BitVec.ofNat 32 a) (BitVec.ofNat 32 b) = 1#1) (X8 : BufTy.Contents (Elt F) arg8.view.ty)
    (X9 : BufTy.Contents (Elt F) arg9.view.ty) (G10 : BufTy.Contents (Elt F) arg10.view.ty) (Q : ℕ → ℕ → F .bf16 → Prop)
    (hcast : ∀ r y v, Q r y v → Q r y (FloatOps.truncf .bf16 bitsLt_bf16_f32 (FloatOps.extf .f32 bitsLt_bf16_f32 v)))
    (hdot : ∀ (m : ℕ) (V : Vec F S256x2880 .bf16) (W : Vec F S640x2880 .bf16),
      (∀ (j : Fin 256) (hj : m + j.val < 1792) (k : Fin 2880), V (ix2 j k) = arg8.view.read (Elt F) X8 (ix2 ⟨m + j.val, hj⟩ k)) →
      (∀ (y : Fin 640) (k : Fin 2880), W (ix2 y k) = arg9.view.read (Elt F) X9 (ix2 y k)) →
      ∀ (j : Fin 256) (y : Fin 640), a ≤ m + j.val → m + j.val < b →
        Q (m + j.val) y.val (FloatOps.truncf .bf16 bitsLt_bf16_f32 (chunkDot V W (ix2 j y))))
    (h0 : ∀ (r : Fin 1792) (y : Fin 640), r.val < a → Q r.val y.val (arg10.view.read (Elt F) G10 (ix2 r y))) :
    ∀ n : ℕ, n ≤ (k0_t3_loop (BitVec.ofNat 32 a) (BitVec.ofNat 32 b)).trips → ∀ (r : Fin 1792) (y : Fin 640), r.val < b →
      (r.val < a ∨ r.val < a / 16 * 16 + 256 * n) →
      Q r.val y.val (arg10.view.read (Elt F) (arg10.view.writes (Elt F) G10 (pb_k0_t3 (F := F) 𝒱 c bd i arg2 harg2 arg3 harg3 arg4 harg4 arg5 harg5 arg6 harg6 arg7 harg7 arg8 harg8 arg9 harg9 arg10 harg10 (BitVec.ofNat 32 a) (BitVec.ofNat 32 b) hchk h2 X8 X9 G10 n)) (ix2 r y))
  | 0, _, r, y, hrb, h => h0 r y (by omega)
  | n + 1, hn, r, y, hrb, h => by
    have hab : a < b := (cond2_iff ha hb).1 h2
    have ih := pb3_holds a b ha hb hchk h2 X8 X9 G10 Q hcast hdot h0 n (by omega)
    have e := pb_k0_t3_succ (F := F) 𝒱 c bd i arg2 harg2 arg3 harg3 arg4 harg4 arg5 harg5 arg6 harg6 arg7 harg7 arg8 harg8 arg9 harg9 arg10 harg10 (BitVec.ofNat 32 a) (BitVec.ofNat 32 b) hchk h2 X8 X9 G10 ⟨n, hn⟩
    have hoff := off75_eq ha hb hab ⟨n, hn⟩
    have hoff8 := off74_eq ha hb hab ⟨n, hn⟩
    have hm := (row_nat ha hb hab n (lt_chunks ha hb hab ⟨n, hn⟩)).2
    have hpay := fun v53 v54 v60 j => pay126_apply (F := F) ha hb hab ⟨n, hn⟩ v53 v54 v60 j
    dsimp only at e hoff hoff8 hpay
    rw [e]
    unfold tripL_k0_t3
    rw [trip_k0_t3.eq_1]
    dsimp only [List.cons_append, List.nil_append]
    obtain ⟨m, hmdef⟩ : ∃ m, a / 16 * 16 + 256 * n = m := ⟨_, rfl⟩
    rw [hmdef] at hoff hoff8 hm hpay ih
    by_cases hin : m ≤ r.val ∧ r.val < m + 256
    · have hj : r.val - m < 256 := by omega
      have hr : m + (r.val - m) = r.val := by omega
      refine (View.read_writes_cons_rows_of_mem arg10.view _ _ _ _ (ix2 r y) (ix2 (⟨r.val - m, hj⟩ : Fin 256) y) hoff hr.symm rfl).symm ▸ ?_
      rw [hpay]
      have e0 : ((ix2 (⟨r.val - m, hj⟩ : Fin 256) y) 0).val = r.val - m := rfl
      rw [e0, hr]
      by_cases hlt : r.val < a
      · rw [if_pos hlt]
        apply hcast
        have hread := ih r y hrb (Or.inl hlt)
        have hx := rows_idx hoff (k0_off75_inb (BitVec.ofNat 32 a) (BitVec.ofNat 32 b) hchk ⟨n, hn⟩ h2) ⟨r.val - m, hj⟩ y (by dsimp only; omega)
        have hx' : (ix2 ⟨m + (r.val - m), by omega⟩ y : S1792x640.Idx) = ix2 r y := by congr 1; exact Fin.ext hr
        rw [View.readAt_apply]
        exact (congrArg (fun z => Q r.val y.val (arg10.view.read (Elt F) _ z)) (hx.trans hx')).symm.mp hread
      · rw [if_neg hlt]
        have hq : Q r.val = Q (m + (r.val - m)) := by rw [hr]
        rw [hq]
        refine hdot m _ _ ?_ ?_ ⟨r.val - m, hj⟩ y (by dsimp only; omega) (by dsimp only; omega)
        · intro j hj k
          exact congrArg (arg8.view.read (Elt F) X8) (rows_idx hoff8 (k0_off74_inb (BitVec.ofNat 32 a) (BitVec.ofNat 32 b) hchk ⟨n, hn⟩ h2) j k hj)
        · intro y k
          exact congrArg (arg9.view.read (Elt F) X9) ((rows_idx rfl inb_S640x2880_S640x2880_0_0 y k (by omega)).trans
            (by congr 1; exact Fin.ext (Nat.zero_add _)))
    · refine (congrArg (fun z => Q r.val y.val z) (?_ : _ = _)).mpr (ih r y hrb (by omega))
      exact View.read_writes_cons_rows_of_not_mem (size := S256x640.size) (W := 256) arg10.view _ _ _ _ (ix2 r y) hoff rfl (by show r.val < m ∨ m + 256 ≤ r.val; omega)

end

end Cert.KernelIdeal.Hand
-- ==== Proof.Point.lean ====
/-
  What the body leaves in its buffers at one grid point, read entry by entry.
-/
module

public import proofs.«01_k».proof.Proof.Fill
public import proofs.«01_k».proof.Proof.Acc
public import Idealize.ShloMosaic.Lib.ValueLayout

@[expose] public section

set_option maxHeartbeats 1000000
set_option maxRecDepth 4000

namespace Cert.KernelIdeal.Hand

open Cert.KernelIdeal Cert.KernelIdeal.Gen
open Idealize.ShloMosaic hiding ix2 eq_ix2 ix3 eq_ix3
open Idealize.ShloMosaic.ValueIdx Idealize.SL.Sem

variable {F : FTy → Type} [FloatOps F] [∀ e, Nonempty (Elt F e)]

/-- A buffer's only slab, sliced out whole and addressed without its leading axis, read. -/
theorem read_slab {e : EltTy} {sp : Space} {p q : ℕ} (v : View sig .tc sp (⟨3, ![1, p, q]⟩ : Shape) e) (X : v.ty.Contents (Elt F))
    (inb : ∀ x, (![0, 0, 0] : Fin 3 → ℕ) x + (![1, p, q] : Fin 3 → ℕ) x ≤ (⟨3, ![1, p, q]⟩ : Shape).size x)
    (h : (⟨2, ![p, q]⟩ : Shape).numel = (⟨3, ![1, p, q]⟩ : Shape).numel) (hc : (⟨3, ![1, p, q]⟩ : Shape).ShapeCasts ⟨2, ![p, q]⟩) (y : Fin p) (k : Fin q) :
    ((v.slice (Rect.unit (s := ⟨3, ![1, p, q]⟩) ![0, 0, 0] ![1, p, q] inb)).reshape (⟨2, ![p, q]⟩ : Shape) h).read (Elt F) X (ix2 y k)
      = v.read (Elt F) X (ix3 0 y k) := by
  have h1 : ((v.slice (Rect.unit (s := ⟨3, ![1, p, q]⟩) ![0, 0, 0] ![1, p, q] inb)).reshape (⟨2, ![p, q]⟩ : Shape) h).read (Elt F) X (ix2 y k)
      = shapeCast (⟨2, ![p, q]⟩ : Shape) (fun x : (⟨3, ![1, p, q]⟩ : Shape).Idx => v.read (Elt F) X
          ((Rect.unit (s := ⟨3, ![1, p, q]⟩) ![0, 0, 0] ![1, p, q] inb).emb x)) hc (ix2 y k) := rfl
  rw [h1, shapeCast_1ab_ab_apply]
  congr 1
  funext x
  apply Fin.ext
  match x with
  | ⟨0, _⟩ => rfl
  | ⟨1, _⟩ => show 0 + 1 * y.val = y.val; omega
  | ⟨2, _⟩ => show 0 + 1 * k.val = k.val; omega

section
variable (c : Dev nD) (i : grid0.Coords) (arg2 : Memref sig .tc .smem S6 .i32) (harg2 : arg2.IsWhole) (arg3 : Memref sig .tc .vmem S1536x2880 .fp8e4m3) (harg3 : arg3.IsWhole) (arg4 : Memref sig .tc .vmem S1536x90 .i8) (harg4 : arg4.IsWhole) (arg5 : Memref sig .tc .vmem S1x640x2880 .fp8e4m3) (harg5 : arg5.IsWhole) (arg6 : Memref sig .tc .vmem S1x640x90 .i8) (harg6 : arg6.IsWhole)
    (arg7 : Memref sig .tc .vmem S1536x640 .bf16) (harg7 : arg7.IsWhole) (arg8 : Memref sig .tc .vmem S1792x2880 .bf16) (harg8 : arg8.IsWhole) (arg9 : Memref sig .tc .vmem S640x2880 .bf16) (harg9 : arg9.IsWhole) (arg10 : Memref sig .tc .vmem S1792x640 .bf16) (harg10 : arg10.IsWhole)

/-- The left operand's scratch after the first point: the dequantised rows. -/
theorem out8_read (h : k0_cond1 i = 1#1) (X3 : BufTy.Contents (Elt F) arg3.view.ty) (X4 : BufTy.Contents (Elt F) arg4.view.ty)
    (f8 : BufTy.Contents (Elt F) arg8.view.ty) (r : Fin 1792) (hr : r.val < 1536) (k : Fin 2880) :
    arg8.view.read (Elt F) (out8 c i arg2 harg2 arg3 harg3 arg4 harg4 arg5 harg5 arg6 harg6 arg7 harg7 arg8 harg8 arg9 harg9 arg10 harg10 X3 X4 f8) (ix2 r k)
      = deqAt (arg3.view.read (Elt F) X3) (arg4.view.read (Elt F) X4) (⟨r.val, hr⟩ : Fin 1536) k := by
  obtain ⟨G, hGd⟩ : ∃ G : (⟨2, ![1792, 2880]⟩ : Shape).Idx → F .bf16, G = fun y =>
      deqAt (arg3.view.read (Elt F) X3) (arg4.view.read (Elt F) X4) (⟨(y 0).val % 1536, Nat.mod_lt _ (by decide)⟩ : Fin 1536) (y 1) := ⟨_, rfl⟩
  have hG : IsDeq arg3.view arg4.view X3 X4 G := by
    intro r' hr' k'
    rw [hGd]
    have e : (⟨r'.val % 1536, Nat.mod_lt _ (by decide)⟩ : Fin 1536) = r' := Fin.ext (Nat.mod_eq_of_lt r'.isLt)
    exact congrArg (fun z => deqAt (arg3.view.read (Elt F) X3) (arg4.view.read (Elt F) X4) z k') e
  have ht : k0_t1_loop.trips = 24 := by decide +kernel
  have hp := pb1_pieces Variants.none c none i arg2 harg2 arg3 harg3 arg4 harg4 arg5 harg5 arg6 harg6 arg7 harg7 arg8 harg8 arg9 harg9 arg10 harg10 h X3 X4 G hG k0_t1_loop.trips (le_refl _)
  have hcov := hp.2 (ix2 r k) (by rw [ht]; show r.val < 64 * 24; omega)
  unfold out8
  rw [dif_pos h]
  refine (View.read_writes_apply_of_pieces arg8.view f8 G _ hp.1 (ix2 r k) hcov).trans ?_
  rw [hGd]
  have e : (⟨r.val % 1536, Nat.mod_lt _ (by decide)⟩ : Fin 1536) = ⟨r.val, hr⟩ := Fin.ext (Nat.mod_eq_of_lt hr)
  exact congrArg (fun z => deqAt (arg3.view.read (Elt F) X3) (arg4.view.read (Elt F) X4) z k) e

/-- The right operand's scratch after a point of a group with rows: the dequantised block. -/
theorem out9_read (v6 v9 : Elt F .i32) (hchk : k0_chk1 v6 v9) (h : k0_cond2 v6 v9 = 1#1) (X5 : BufTy.Contents (Elt F) arg5.view.ty)
    (X6 : BufTy.Contents (Elt F) arg6.view.ty) (f9 : BufTy.Contents (Elt F) arg9.view.ty) (r : Fin 640) (k : Fin 2880) :
    arg9.view.read (Elt F) (out9 c i arg2 harg2 arg3 harg3 arg4 harg4 arg5 harg5 arg6 harg6 arg7 harg7 arg8 harg8 arg9 harg9 arg10 harg10 v6 v9 hchk (mv51 arg6) rfl (mv99 arg5) rfl X6 X5 f9) (ix2 r k)
      = deq (arg5.view.read (Elt F) X5 (ix3 0 r k)) (arg6.view.read (Elt F) X6 (ix3 0 r ⟨k.val / 32, by omega⟩)) := by
  obtain ⟨G, hGd⟩ : ∃ G : (⟨2, ![640, 2880]⟩ : Shape).Idx → F .bf16, G = fun y =>
      deqAt ((mv99 arg5).view.read (Elt F) X5) ((mv51 arg6).view.read (Elt F) X6) (y 0) (y 1) := ⟨_, rfl⟩
  have hG : IsDeq (mv99 arg5).view (mv51 arg6).view X5 X6 G := fun r' hr' k' => by rw [hGd]
  have ht : k0_t2_loop.trips = 10 := by decide +kernel
  have hp := pb2_pieces Variants.none c none i arg2 harg2 arg3 harg3 arg4 harg4 arg5 harg5 arg6 harg6 arg7 harg7 arg8 harg8 arg9 harg9 arg10 harg10 v6 v9 hchk h (mv51 arg6) rfl (mv99 arg5) rfl X6 X5 G hG k0_t2_loop.trips (le_refl _)
  have hcov := hp.2 (ix2 r k) (by rw [ht]; show r.val < 64 * 10; omega)
  unfold out9
  rw [dif_pos h]
  refine (View.read_writes_apply_of_pieces arg9.view f9 G _ hp.1 (ix2 r k) hcov).trans ?_
  rw [hGd]
  have e5 := read_slab (F := F) arg5.view X5 inb_S1x640x2880_S1x640x2880_0_0_0 squeezes_S1x640x2880_S640x2880.numel_eq (by decide) r k
  have e6 := read_slab (F := F) arg6.view X6 inb_S1x640x90_S1x640x90_0_0_0 squeezes_S1x640x90_S640x90.numel_eq (by decide) r ⟨k.val / 32, by omega⟩
  exact (congrArg (fun z => deq z _) e5).trans (congrArg (fun z => deq _ z) e6)

/-- The output block after a group loop's last point: the accumulator's rows. -/
theorem out7_read (h : k0_cond3 i = 1#1) (g10 : BufTy.Contents (Elt F) arg10.view.ty) (f7 : BufTy.Contents (Elt F) arg7.view.ty)
    (r : Fin 1536) (y : Fin 640) :
    arg7.view.read (Elt F) (out7 i arg7 arg10 g10 f7) (ix2 r y) = arg10.view.read (Elt F) g10 (ix2 ⟨r.val, by omega⟩ y) := by
  unfold out7
  rw [if_pos h]
  refine (View.read_writes_cons_rows_of_mem arg7.view _ _ _ _ (ix2 r y) (ix2 r y) rfl (Nat.zero_add _).symm rfl).trans ?_
  exact congrArg (arg10.view.read (Elt F) g10) ((rows_idx rfl inb_S1792x640_S1536x640_0_0 r y (by omega)).trans
    (by congr 1; exact Fin.ext (Nat.zero_add _)))

end

end Cert.KernelIdeal.Hand
-- ==== Proof.Data.lean ====
/-
  The body at every grid point, and the pipeline's proof data.

  The points run over the column blocks, and within one over the groups. Before the point of group `e` the accumulator's rows
  below the group's first row hold good values of the column block; the left operand's scratch holds the dequantised left operand
  from the second point on. `Good r y v` is what is claimed of the value `v` at row `r` and column `y` of the result.
-/
module

public import proofs.«01_k».proof.Proof.Point
public import Idealize.ShloMosaic.Lib.Pipeline.FrameBody

@[expose] public section

set_option maxRecDepth 4000

noncomputable section

namespace Cert.KernelIdeal.Hand

open Cert.KernelIdeal Cert.KernelIdeal.Gen
open Idealize.ShloMosaic hiding ix1 eq_ix1 ix2 eq_ix2 ix3 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

/-! ## The grid -/

theorem cond1_at : ∀ t : Fin grid0.N, k0_cond1 (grid0.coords t) = 1#1 ↔ t.val = 0 := by decide +kernel
theorem cond3_at : ∀ t : Fin grid0.N, k0_cond3 (grid0.coords t) = 1#1 ↔ t.val % 5 = 4 := by decide +kernel
theorem off48_at : ∀ t : Fin grid0.N, k0_off48 (grid0.coords t) = ![t.val % 5] := by decide +kernel
theorem off49_at : ∀ t : Fin grid0.N, k0_off49 (grid0.coords t) = ![t.val % 5 + 1] := by decide +kernel
theorem tr2_at : ∀ t : Fin grid0.N, cc0_transform_2 (grid0.coords t) = ![t.val % 5, t.val / 5, 0] := by decide +kernel
theorem tr3_at : ∀ t : Fin grid0.N, cc0_transform_3 (grid0.coords t) = ![t.val % 5, t.val / 5, 0] := by decide +kernel
theorem tr4_at : ∀ t : Fin grid0.N, cc0_transform_4 (grid0.coords t) = ![0, t.val / 5] := by decide +kernel

theorem t_lt (t : Fin grid0.N) : t.val < 45 := lt_of_lt_of_eq t.isLt N_0

variable (a : (pcfg0 (F := F)).Adm) (V : (c : Dev nD) → (b : Ref sig .tc) → Buf (Elt F) ((c : Thread nD τ).loc b))
  (offs : ℕ → ℕ) (Good : ℕ → ℕ → F .bf16 → Prop)

/-! ## The operands -/

/-- The left operand's codes and scales and the right operand's, as the region finds them. -/
def xCodes (c : Dev nD) : (⟨2, ![1536, 2880]⟩ : Shape).Idx → F .fp8e4m3 := V c main_v3
def xScales (c : Dev nD) : (⟨2, ![1536, 90]⟩ : Shape).Idx → BitVec 8 := V c main_v4
def wCodes (c : Dev nD) : (⟨3, ![5, 5760, 2880]⟩ : Shape).Idx → F .fp8e4m3 := V c main_arg2
def wScales (c : Dev nD) : (⟨3, ![5, 5760, 90]⟩ : Shape).Idx → BitVec 8 := V c main_arg3

/-- The dequantised left operand. -/
def xDeq (c : Dev nD) (r : Fin 1536) (k : Fin 2880) : F .bf16 := deqAt (xCodes V c) (xScales V c) r k
/-- The dequantised right operand. -/
def wDeq (c : Dev nD) (e : Fin 5) (y : Fin 5760) (k : Fin 2880) : F .bf16 :=
  deq (wCodes V c (ix3 e y k)) (wScales V c (ix3 e y ⟨k.val / 32, by omega⟩))

/-- What the points use of the table and of `Good`: the table holds the groups' bounds, in order, from 0 to 1536; and the product
    of a group's row with its block of the right operand is good. -/
structure Hyp (c : Dev nD) : Prop where
  table : ∀ e : Fin 6, (show S6.Idx → BitVec 32 from a.1 0) (ix1 e) = BitVec.ofNat 32 (offs e.val)
  first : offs 0 = 0
  last : offs 5 = 1536
  mono : ∀ e : ℕ, e < 5 → offs e ≤ offs (e + 1)
  cast : ∀ r y v, Good r y v → Good r y (FloatOps.truncf .bf16 bitsLt_bf16_f32 (FloatOps.extf .f32 bitsLt_bf16_f32 v))
  dot : ∀ (e : Fin 5) (n : Fin 9) (m : ℕ) (X : Vec F S256x2880 .bf16) (W : Vec F S640x2880 .bf16),
    (∀ (j : Fin 256) (hj : m + j.val < 1536) (k : Fin 2880), X (ix2 j k) = xDeq V c ⟨m + j.val, hj⟩ k) →
    (∀ (y : Fin 640) (k : Fin 2880), W (ix2 y k) = wDeq V c e ⟨640 * n.val + y.val, by omega⟩ k) →
    ∀ (j : Fin 256) (y : Fin 640), offs e.val ≤ m + j.val → m + j.val < offs (e.val + 1) →
      Good (m + j.val) (640 * n.val + y.val) (FloatOps.truncf .bf16 bitsLt_bf16_f32 (chunkDot X W (ix2 j y)))

variable {a V offs Good} in
theorem Hyp.le {c : Dev nD} (h : Hyp a V offs Good c) : ∀ e : ℕ, e ≤ 5 → offs e ≤ 1536 := by
  intro e he
  have h0 := h.mono 0 (by omega); have h1 := h.mono 1 (by omega); have h2 := h.mono 2 (by omega)
  have h3 := h.mono 3 (by omega); have h4 := h.mono 4 (by omega); have h5 := h.last
  simp only [Nat.zero_add, Nat.reduceAdd] at h0 h1 h2 h3 h4
  interval_cases e <;> omega

/-! ## The operands the body is handed -/

abbrev ms0 (t : Fin (cfg0 a).N) : Memref sig .tc .vmem S1536x2880 .fp8e4m3 := spec0_0.stage ((cfg0 a).slots t 0)
abbrev ms1 (t : Fin (cfg0 a).N) : Memref sig .tc .vmem S1536x90 .i8 := spec0_1.stage ((cfg0 a).slots t 1)
abbrev ms2 (t : Fin (cfg0 a).N) : Memref sig .tc .vmem S1x640x2880 .fp8e4m3 := spec0_2.stage ((cfg0 a).slots t 2)
abbrev ms3 (t : Fin (cfg0 a).N) : Memref sig .tc .vmem S1x640x90 .i8 := spec0_3.stage ((cfg0 a).slots t 3)
abbrev ms4 (t : Fin (cfg0 a).N) : Memref sig .tc .vmem S1536x640 .bf16 := spec0_4.stage ((cfg0 a).slots t 4)
theorem hs0 (t : Fin (cfg0 a).N) : (ms0 a t).IsWhole := hstage0_0 (((cfg0 a).slots t 0).cast nbuf0_0)
theorem hs1 (t : Fin (cfg0 a).N) : (ms1 a t).IsWhole := hstage0_1 (((cfg0 a).slots t 1).cast nbuf0_1)
theorem hs2 (t : Fin (cfg0 a).N) : (ms2 a t).IsWhole := hstage0_2 (((cfg0 a).slots t 2).cast nbuf0_2)
theorem hs3 (t : Fin (cfg0 a).N) : (ms3 a t).IsWhole := hstage0_3 (((cfg0 a).slots t 3).cast nbuf0_3)
theorem hs4 (t : Fin (cfg0 a).N) : (ms4 a t).IsWhole := hstage0_4 (((cfg0 a).slots t 4).cast nbuf0_4)

/-- A memref's buffer held at contents `f`. -/
abbrev pts (c : Dev nD) (q : PosShare TreeShare) {sp : Space} {S : Shape} {e : EltTy} (M : Memref sig .tc sp S e) (f : BufTy.Contents (Elt F) M.view.ty) : sProp 𝕄 :=
  M.view.loc (c : Thread nD τ) ↦[M.view.set]{q} f

/-- The left operand's scratch holds the dequantised left operand. -/
def XsHolds (c : Dev nD) (f : BufTy.Contents (Elt F) (Memref.whole (sig := sig) cc0_scratch0).view.ty) : Prop :=
  ∀ (r : Fin 1792) (hr : r.val < 1536) (k : Fin 2880), (Memref.whole cc0_scratch0).view.read (Elt F) f (ix2 r k) = xDeq V c ⟨r.val, hr⟩ k

/-- The accumulator's rows below `b` hold good values of column block `n`. -/
def AccHolds (n b : ℕ) (f : BufTy.Contents (Elt F) (Memref.whole (sig := sig) cc0_scratch2).view.ty) : Prop :=
  ∀ (r : Fin 1792) (y : Fin 640), r.val < b → Good r.val (640 * n + y.val) ((Memref.whole cc0_scratch2).view.read (Elt F) f (ix2 r y))

/-- The invariant before point `t`. -/
def Phi (c : Dev nD) (t : ℕ) : sProp 𝕄 :=
  iprop((∃ f, ⌜0 < t → XsHolds V c f⌝ ∗ pts c fullShare (Memref.whole cc0_scratch0) f)
    ∗ (∃ f, pts c fullShare (Memref.whole cc0_scratch1) f)
    ∗ (∃ f, ⌜AccHolds Good (t / 5) (offs (t % 5)) f⌝ ∗ pts c fullShare (Memref.whole cc0_scratch2) f)
    ∗ (∃ r, prngReg c r)
    ∗ pts c fullShare.right (Memref.whole main_v2) (show S6.Idx → BitVec 32 from a.1 0))

/-- The proof data of the pipeline on core `c`: the input blocks stay as fetched; after a group loop's last point the output block
    is good. -/
def rdat (c : Dev nD) : RDat τ (Elt F) Unit ℕ (UR sig nD τ) ℕ (cfg0 a) c where
  A w := V c (Pipeline.arrRef spec0 w)
  after w t := match w with
    | ⟨4, _⟩ => fun _ X => t.val % 5 = 4 → ∀ (r : Fin 1536) (y : Fin 640), Good r.val (640 * (t.val / 5) + y.val) ((show S1536x640.Idx → F .bf16 from X) (ix2 r y))
    | _ => fun Y X => X = Y
  Φ t := Phi a V offs Good c t.val
  q _ := fullShare
  owed _ := 0

/-! ## What the windows hold -/

section
variable (c : Dev nD)

theorem finds0 (t : Fin (cfg0 a).N) (Y) (h : (rdat a V offs Good c).Finds 0 t Y) : (show S1536x2880.Idx → F .fp8e4m3 from Y) = xCodes V c := by
  obtain ⟨d, rfl⟩ := (rdat a V offs Good c).finds_in_eq_fetched 0 rfl (fun _ _ _ => rfl) (fun _ _ _ h => h) t Y h
  funext j
  have hm : ((cfg0 a).win 0).moved ((cfg0 a).grid.coords t) j = true := (((cfg0 a).win 0).moved_iff _ j).mpr fun x => (j x).isLt
  unfold RDat.fetched Pipeline.Window.fill
  rw [dif_pos hm]
  show V c main_v3 _ = V c main_v3 _
  congr 1
  funext x
  apply Fin.ext
  match x with
  | ⟨0, _⟩ => show 0 * 1536 + 1 * (j 0).val = (j 0).val; omega
  | ⟨1, _⟩ => show 0 * 2880 + 1 * (j 1).val = (j 1).val; omega

theorem finds1 (t : Fin (cfg0 a).N) (Y) (h : (rdat a V offs Good c).Finds 1 t Y) : (show S1536x90.Idx → BitVec 8 from Y) = xScales V c := by
  obtain ⟨d, rfl⟩ := (rdat a V offs Good c).finds_in_eq_fetched 1 rfl (fun _ _ _ => rfl) (fun _ _ _ h => h) t Y h
  funext j
  have hm : ((cfg0 a).win 1).moved ((cfg0 a).grid.coords t) j = true := (((cfg0 a).win 1).moved_iff _ j).mpr fun x => (j x).isLt
  unfold RDat.fetched Pipeline.Window.fill
  rw [dif_pos hm]
  show V c main_v4 _ = V c main_v4 _
  congr 1
  funext x
  apply Fin.ext
  match x with
  | ⟨0, _⟩ => show 0 * 1536 + 1 * (j 0).val = (j 0).val; omega
  | ⟨1, _⟩ => show 0 * 90 + 1 * (j 1).val = (j 1).val; omega

theorem finds2 (t : Fin (cfg0 a).N) (Y) (h : (rdat a V offs Good c).Finds 2 t Y) (y : Fin 640) (k : Fin 2880) :
    (show S1x640x2880.Idx → F .fp8e4m3 from Y) (ix3 0 y k)
      = wCodes V c (ix3 ⟨t.val % 5, by omega⟩ ⟨640 * (t.val / 5) + y.val, by have := t_lt t; omega⟩ k) := by
  obtain ⟨d, rfl⟩ := (rdat a V offs Good c).finds_in_eq_fetched 2 rfl (fun _ _ _ => rfl) (fun _ _ _ h => h) t Y h
  have hm : ((cfg0 a).win 2).moved ((cfg0 a).grid.coords t) (ix3 (0 : Fin 1) y k) = true :=
    (((cfg0 a).win 2).moved_iff _ _).mpr fun x => ((ix3 (0 : Fin 1) y k : S1x640x2880.Idx) x).isLt
  unfold RDat.fetched Pipeline.Window.fill
  dsimp only
  rw [dif_pos hm]
  show V c main_arg2 _ = V c main_arg2 _
  have htr := tr2_at t
  congr 1
  funext x
  apply Fin.ext
  match x with
  | ⟨0, _⟩ =>
    show cc0_transform_2 (grid0.coords t) 0 * 1 + 1 * 0 = t.val % 5
    rw [htr]; show t.val % 5 * 1 + 1 * 0 = t.val % 5; omega
  | ⟨1, _⟩ =>
    show cc0_transform_2 (grid0.coords t) 1 * 640 + 1 * y.val = 640 * (t.val / 5) + y.val
    rw [htr]; show t.val / 5 * 640 + 1 * y.val = 640 * (t.val / 5) + y.val; omega
  | ⟨2, _⟩ =>
    show cc0_transform_2 (grid0.coords t) 2 * 2880 + 1 * k.val = k.val
    rw [htr]; show 0 * 2880 + 1 * k.val = k.val; omega

theorem finds3 (t : Fin (cfg0 a).N) (Y) (h : (rdat a V offs Good c).Finds 3 t Y) (y : Fin 640) (k : Fin 90) :
    (show S1x640x90.Idx → BitVec 8 from Y) (ix3 0 y k)
      = wScales V c (ix3 ⟨t.val % 5, by omega⟩ ⟨640 * (t.val / 5) + y.val, by have := t_lt t; omega⟩ k) := by
  obtain ⟨d, rfl⟩ := (rdat a V offs Good c).finds_in_eq_fetched 3 rfl (fun _ _ _ => rfl) (fun _ _ _ h => h) t Y h
  have hm : ((cfg0 a).win 3).moved ((cfg0 a).grid.coords t) (ix3 (0 : Fin 1) y k) = true :=
    (((cfg0 a).win 3).moved_iff _ _).mpr fun x => ((ix3 (0 : Fin 1) y k : S1x640x90.Idx) x).isLt
  unfold RDat.fetched Pipeline.Window.fill
  dsimp only
  rw [dif_pos hm]
  show V c main_arg3 _ = V c main_arg3 _
  have htr := tr3_at t
  congr 1
  funext x
  apply Fin.ext
  match x with
  | ⟨0, _⟩ =>
    show cc0_transform_3 (grid0.coords t) 0 * 1 + 1 * 0 = t.val % 5
    rw [htr]; show t.val % 5 * 1 + 1 * 0 = t.val % 5; omega
  | ⟨1, _⟩ =>
    show cc0_transform_3 (grid0.coords t) 1 * 640 + 1 * y.val = 640 * (t.val / 5) + y.val
    rw [htr]; show t.val / 5 * 640 + 1 * y.val = 640 * (t.val / 5) + y.val; omega
  | ⟨2, _⟩ =>
    show cc0_transform_3 (grid0.coords t) 2 * 90 + 1 * k.val = k.val
    rw [htr]; show 0 * 90 + 1 * k.val = k.val; omega

end

end Cert.KernelIdeal.Hand
-- ==== Proof.Sound.lean ====
/-
  The body keeps the pipeline's invariant.
-/
module

public import proofs.«01_k».proof.Proof.Data
public import Idealize.ShloMosaic.Lib.Pipeline.FrameBody

@[expose] public section

set_option maxRecDepth 4000
set_option maxHeartbeats 1000000

noncomputable section

namespace Cert.KernelIdeal.Hand

open Cert.KernelIdeal Cert.KernelIdeal.Gen
open Idealize.ShloMosaic hiding ix1 eq_ix1 ix2 eq_ix2 ix3 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (a : (pcfg0 (F := F)).Adm) (V : (c : Dev nD) → (b : Ref sig .tc) → Buf (Elt F) ((c : Thread nD τ).loc b))
  (offs : ℕ → ℕ) (Good : ℕ → ℕ → F .bf16 → Prop)

/-- The table as the body reads it. -/
abbrev tbl : S6.Idx → BitVec 32 := show S6.Idx → BitVec 32 from a.1 0

variable {a V offs Good}

/-- The table word that opens the point's group. -/
theorem word6_at {c : Dev nD} (H : Hyp a V offs Good c) (t : Fin grid0.N) :
    word6 (F := F) (grid0.coords t) (Memref.whole main_v2) (tbl a) = BitVec.ofNat 32 (offs (t.val % 5)) := by
  have h := H.table ⟨t.val % 5, by omega⟩
  refine Eq.trans ?_ h
  show tbl a _ = tbl a _
  congr 1
  funext x
  apply Fin.ext
  have ho := off48_at t
  match x with
  | ⟨0, _⟩ =>
    show k0_off48 (grid0.coords t) 0 + 1 * 0 = t.val % 5
    rw [ho]; rfl

/-- The table word that closes the point's group. -/
theorem word9_at {c : Dev nD} (H : Hyp a V offs Good c) (t : Fin grid0.N) :
    word9 (F := F) (grid0.coords t) (Memref.whole main_v2) (tbl a) = BitVec.ofNat 32 (offs (t.val % 5 + 1)) := by
  have h := H.table ⟨t.val % 5 + 1, by omega⟩
  refine Eq.trans ?_ h
  show tbl a _ = tbl a _
  congr 1
  funext x
  apply Fin.ext
  have ho := off49_at t
  match x with
  | ⟨0, _⟩ =>
    show k0_off49 (grid0.coords t) 0 + 1 * 0 = t.val % 5 + 1
    rw [ho]; rfl

theorem chk1_at {c : Dev nD} (H : Hyp a V offs Good c) (t : Fin grid0.N) :
    k0_chk1 (word6 (F := F) (grid0.coords t) (Memref.whole main_v2) (tbl a)) (word9 (F := F) (grid0.coords t) (Memref.whole main_v2) (tbl a)) := by
  rw [word6_at H t, word9_at H t]
  exact chk1 (H.le _ (by omega)) (H.le _ (by omega))

section
variable {c : Dev nD} (H : Hyp a V offs Good c) (t : Fin (cfg0 a).N)
  (X3 : BufTy.Contents (Elt F) (ms0 a t).view.ty) (X4 : BufTy.Contents (Elt F) (ms1 a t).view.ty)
  (X5 : BufTy.Contents (Elt F) (ms2 a t).view.ty) (X6 : BufTy.Contents (Elt F) (ms3 a t).view.ty)

include H in
/-- The left operand's scratch after the point. -/
theorem xs_step (h3 : (rdat a V offs Good c).Finds 0 t ((ms0 a t).view.read (Elt F) X3)) (h4 : (rdat a V offs Good c).Finds 1 t ((ms1 a t).view.read (Elt F) X4))
    (f8 : BufTy.Contents (Elt F) (Memref.whole (sig := sig) cc0_scratch0).view.ty) (hf : 0 < t.val → XsHolds V c f8) :
    XsHolds V c (out8 c (grid0.coords t) (Memref.whole main_v2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _) X3 X4 f8) := by
  by_cases h1 : k0_cond1 (grid0.coords t) = 1#1
  · intro r hr k
    rw [out8_read c (grid0.coords t) (Memref.whole main_v2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _) h1 X3 X4 f8 r hr k]
    have e3 := finds0 a V offs Good c t _ h3
    have e4 := finds1 a V offs Good c t _ h4
    dsimp only at e3 e4
    rw [e3, e4]; rfl
  · unfold out8
    rw [dif_neg h1]
    exact hf (Nat.pos_of_ne_zero fun h => h1 ((cond1_at t).2 h))

include H in
/-- The accumulator after the point: its rows below the group's end are good. -/
theorem acc_step (h5 : (rdat a V offs Good c).Finds 2 t ((ms2 a t).view.read (Elt F) X5)) (h6 : (rdat a V offs Good c).Finds 3 t ((ms3 a t).view.read (Elt F) X6))
    (g8 : BufTy.Contents (Elt F) (Memref.whole (sig := sig) cc0_scratch0).view.ty) (hg8 : XsHolds V c g8)
    (f9 : BufTy.Contents (Elt F) (Memref.whole (sig := sig) cc0_scratch1).view.ty)
    (f10 : BufTy.Contents (Elt F) (Memref.whole (sig := sig) cc0_scratch2).view.ty) (hf : AccHolds Good (t.val / 5) (offs (t.val % 5)) f10)
    (v6 v9 : BitVec 32) (e6 : v6 = BitVec.ofNat 32 (offs (t.val % 5))) (e9 : v9 = BitVec.ofNat 32 (offs (t.val % 5 + 1)))
    (hchk : k0_chk1 v6 v9) :
    AccHolds Good (t.val / 5) (offs (t.val % 5 + 1)) (out10 c (grid0.coords t) (Memref.whole main_v2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _) v6 v9 hchk g8
      (out9 c (grid0.coords t) (Memref.whole main_v2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _) v6 v9 hchk (mv51 (ms3 a t)) rfl (mv99 (ms2 a t)) rfl X6 X5 f9) f10) := by
  subst e6 e9
  have ha := H.le (t.val % 5) (by omega)
  have hb := H.le (t.val % 5 + 1) (by omega)
  have hn : t.val / 5 < 9 := by have := t_lt t; omega
  by_cases h2 : k0_cond2 (BitVec.ofNat 32 (offs (t.val % 5))) (BitVec.ofNat 32 (offs (t.val % 5 + 1))) = 1#1
  · have hab := (cond2_iff ha hb).1 h2
    have hw := out9_read c (grid0.coords t) (Memref.whole main_v2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _) _ _ hchk h2 X5 X6 f9
    obtain ⟨g9, hg9⟩ : ∃ g9, out9 c (grid0.coords t) (Memref.whole main_v2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _) _ _ hchk (mv51 (ms3 a t)) rfl (mv99 (ms2 a t)) rfl X6 X5 f9 = g9 := ⟨_, rfl⟩
    rw [hg9] at hw ⊢
    intro r y hr
    unfold out10
    rw [dif_pos h2]
    have ht := t3_trips ha hb hab
    refine pb3_holds Variants.none c none (grid0.coords t) (Memref.whole main_v2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _) _ _ ha hb hchk h2 g8 g9 f10
      (fun r y v => Good r (640 * (t.val / 5) + y) v) (fun r y v => H.cast r _ v) ?_ ?_ _ (le_refl _) r y hr (Or.inr ?_)
    · intro m X W hX hW j y hj1 hj2
      refine H.dot ⟨t.val % 5, by omega⟩ ⟨t.val / 5, hn⟩ m X W ?_ ?_ j y hj1 hj2
      · intro j hj k
        exact (hX j (by omega) k).trans (hg8 ⟨m + j.val, by omega⟩ hj k)
      · intro y k
        rw [hW y k, hw y k]
        have e5 := finds2 a V offs Good c t _ h5 y k
        have e6 := finds3 a V offs Good c t _ h6 y ⟨k.val / 32, by omega⟩
        dsimp only at e5 e6
        exact (congrArg (fun z => deq z _) e5).trans (congrArg (fun z => deq _ z) e6)
    · intro r y hr; exact hf r y hr
    · have : (k0_t3_loop (BitVec.ofNat 32 (offs (t.val % 5))) (BitVec.ofNat 32 (offs (t.val % 5 + 1)))).trips = chunks (offs (t.val % 5)) (offs (t.val % 5 + 1)) := ht
      rw [this]
      unfold chunks
      omega
  · have hab : ¬ offs (t.val % 5) < offs (t.val % 5 + 1) := fun h => h2 ((cond2_iff ha hb).2 h)
    unfold out10
    rw [dif_neg h2]
    exact fun r y hr => hf r y (by omega)

end

variable (a V offs Good)

/-- What the body is called with at point `t`, and what it returns. -/
def bodyPre (c : Dev nD) (t : Fin (cfg0 a).N) (Y : (w : Fin 5) → ((cfg0 a).win w).block.Idx → Elt F ((cfg0 a).win w).elt) : sProp 𝕄 :=
  iprop((rdat a V offs Good c).Φ t.castSucc ∗ (rdat a V offs Good c).owesAt () t.castSucc
    ∗ owns (c : Thread nD τ) (ms0 a t) fullShare (Y 0) ∗ owns (c : Thread nD τ) (ms1 a t) fullShare (Y 1) ∗ owns (c : Thread nD τ) (ms2 a t) fullShare (Y 2)
    ∗ owns (c : Thread nD τ) (ms3 a t) fullShare (Y 3) ∗ owns (c : Thread nD τ) (ms4 a t) fullShare (Y 4))
def bodyPost (c : Dev nD) (t : Fin (cfg0 a).N) (Y : (w : Fin 5) → ((cfg0 a).win w).block.Idx → Elt F ((cfg0 a).win w).elt) : sProp 𝕄 :=
  iprop((rdat a V offs Good c).Φ t.succ ∗ (rdat a V offs Good c).owesAt () t.succ
    ∗ (∃ X, ⌜(rdat a V offs Good c).after 0 t (Y 0) X⌝ ∗ owns (c : Thread nD τ) (ms0 a t) fullShare X)
    ∗ (∃ X, ⌜(rdat a V offs Good c).after 1 t (Y 1) X⌝ ∗ owns (c : Thread nD τ) (ms1 a t) fullShare X)
    ∗ (∃ X, ⌜(rdat a V offs Good c).after 2 t (Y 2) X⌝ ∗ owns (c : Thread nD τ) (ms2 a t) fullShare X)
    ∗ (∃ X, ⌜(rdat a V offs Good c).after 3 t (Y 3) X⌝ ∗ owns (c : Thread nD τ) (ms3 a t) fullShare X)
    ∗ (∃ X, ⌜(rdat a V offs Good c).after 4 t (Y 4) X⌝ ∗ owns (c : Thread nD τ) (ms4 a t) fullShare X))

theorem sound_body (c : Dev nD) (H : Hyp a V offs Good c) (t : Fin (cfg0 a).N) (Y : (w : Fin 5) → ((cfg0 a).win w).block.Idx → Elt F ((cfg0 a).win w).elt)
    (hY : ∀ w, (rdat a V offs Good c).Finds w t (Y w)) :
    bodyPre a V offs Good c t Y ⊢ wp frame (wpE (defs₀ (F := F)) Variants.none c none) Set.univ
      (cc0__body (F := F) (grid0.coords t) (Memref.whole main_v2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _)) (fun _ => bodyPost a V offs Good c t Y) := by
  unfold bodyPre bodyPost
  rw [show (rdat a V offs Good c).Φ t.castSucc = Phi a V offs Good c t.val from rfl,
    show (rdat a V offs Good c).Φ t.succ = Phi a V offs Good c (t.val + 1) from rfl,
    show (rdat a V offs Good c).owesAt () t.succ = (rdat a V offs Good c).owesAt () t.castSucc from rfl]
  unfold Phi owns
  iintro ⟨⟨⟨%f8, %h8, H8⟩, ⟨%f9, H9⟩, ⟨%f10, %h10, H10⟩, Hg, H2⟩, HO, ⟨%X3, %e3, H3⟩, ⟨%X4, %e4, H4⟩, ⟨%X5, %e5, H5⟩, ⟨%X6, %e6, H6⟩, ⟨%f7, %e7, H7⟩⟩
  have h3 := hY 0; have h4 := hY 1; have h5 := hY 2; have h6 := hY 3
  rw [← e3] at h3; rw [← e4] at h4; rw [← e5] at h5; rw [← e6] at h6
  iapply (kernelRun c (grid0.coords t) (Memref.whole main_v2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _) fullShare.right (tbl a) X3 X4 X5 X6 f7 f8 f9 f10 (chk1_at H t) _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro %g7 %g8 %g9 %g10 %hg ⟨H2, H3, H4, H5, H6, H7, H8, H9, H10⟩
  have hx : XsHolds V c g8 := hg.1 ▸ xs_step H t X3 X4 h3 h4 f8 h8
  have hacc : AccHolds Good (t.val / 5) (offs (t.val % 5 + 1)) g10 := by
    have := acc_step H t X5 X6 h5 h6 g8 hx f9 f10 h10 _ _ (word6_at H t) (word9_at H t) (chk1_at H t)
    rw [hg.2.2.1, hg.2.1]
    exact this
  isplitl [H8 H9 H10 Hg H2]
  · isplitl [H8]
    · iexists g8; isplitr; · ipureintro; exact fun _ => hx
      iexact H8
    isplitl [H9]; · iexists g9; iexact H9
    isplitl [H10]
    · iexists g10; isplitr
      · ipureintro
        by_cases h : t.val % 5 = 4
        · have e : (t.val + 1) % 5 = 0 := by omega
          rw [e, H.first]
          exact fun r y hr => absurd hr (Nat.not_lt_zero _)
        · have e : (t.val + 1) % 5 = t.val % 5 + 1 := by omega
          have e' : (t.val + 1) / 5 = t.val / 5 := by omega
          rw [e, e']
          exact hacc
      iexact H10
    isplitl [Hg]; · iexact Hg
    iexact H2
  isplitl [HO]; · iexact HO
  isplitl [H3]
  · iexists (Y 0); isplitr; · ipureintro; rfl
    iexists X3; isplitr; · ipureintro; exact e3
    iexact H3
  isplitl [H4]
  · iexists (Y 1); isplitr; · ipureintro; rfl
    iexists X4; isplitr; · ipureintro; exact e4
    iexact H4
  isplitl [H5]
  · iexists (Y 2); isplitr; · ipureintro; rfl
    iexists X5; isplitr; · ipureintro; exact e5
    iexact H5
  isplitl [H6]
  · iexists (Y 3); isplitr; · ipureintro; rfl
    iexists X6; isplitr; · ipureintro; exact e6
    iexact H6
  iexists _; isplitr; swap
  · iexists g7; isplitr; swap; · iexact H7
    ipureintro; rfl
  ipureintro
  intro h r y
  have hc : k0_cond3 (grid0.coords t) = 1#1 := (cond3_at t).2 h
  have hr := out7_read (F := F) (grid0.coords t) (ms4 a t) (Memref.whole cc0_scratch2) hc g10 f7 r y
  rw [← hg.2.2.2] at hr
  have hgood := hacc ⟨r.val, by omega⟩ y (by rw [h]; show r.val < offs 5; rw [H.last]; exact r.isLt)
  exact (congrArg (Good r.val (640 * (t.val / 5) + y.val)) hr).mpr hgood

theorem defs₀_body (t : Fin (cfg0 a).N) :
    defs₀ (F := F) .tc (cfg0 a).body ((cfg0 a).bodyArgs t ((cfg0 a).slots t)) = cc0__body (F := F) (grid0.coords t) (Memref.whole main_v2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _) := by
  unfold defs₀; rw [Defs.onTc_tc]

theorem body_obligation (c : Dev nD) (H : Hyp a V offs Good c) : (rdat a V offs Good c).BodyObligation (defs₀ (F := F)) Variants.none () Set.univ := by
  intro t Y hY
  rw [bigSep_W0, bigSep_W0, defs₀_body]
  exact triple_restated (sound_body a V offs Good c H t Y hY) rfl .rfl fun _ => .rfl

end Cert.KernelIdeal.Hand
-- ==== Proof.Counts.lean ====
/-
  The group sizes: what the preconditions say of them, and the table of the groups' bounds.

  The kernel reads a table of six words: zero, and the running sums of the five group sizes. The preconditions say that the sizes are
  nonnegative and add up to the number of rows, 1536; the running sums are then the groups' bounds as numbers, in order.
-/
module

public import proofs.«01_k».proof.Pre_counts
public import proofs.«01_k».proof.Pre_valid
public import Idealize.ShloMosaic.Lib.Routing.OpsOne
public import Idealize.ShloMosaic.Lib.Pointwise

@[expose] public section

set_option maxHeartbeats 1000000

namespace Cert.Counts

open Idealize.ShloMosaic hiding ix0 ix1 eq_ix1 ix2 eq_ix2 ix3 eq_ix3
open Idealize.ShloMosaic.ValueIdx

abbrev S1 : Shape := ⟨1, ![1]⟩
abbrev S5 : Shape := ⟨1, ![5]⟩
abbrev S6 : Shape := ⟨1, ![6]⟩
abbrev S_ : Shape := ⟨0, ![]⟩

/-- Group `i`'s size as a number (zero past the last group). -/
def cnt (s : IVec S5 32) (i : ℕ) : ℕ := if h : i < 5 then (s (ix1 ⟨i, h⟩)).toNat else 0

/-- The row at which group `e` begins: the sum of the sizes before it. -/
def offs (s : IVec S5 32) (e : ℕ) : ℕ := ∑ i ∈ Finset.range e, cnt s i

theorem offs_first (s : IVec S5 32) : offs s 0 = 0 := rfl

theorem offs_mono (s : IVec S5 32) (e : ℕ) : offs s e ≤ offs s (e + 1) := by
  unfold offs; rw [Finset.sum_range_succ]; omega

/-- Every size is between 0 and 1536, and the sizes add up, as words, to 1536. -/
structure Ok (s : IVec S5 32) : Prop where
  le : ∀ i : Fin 5, (s (ix1 i)).toNat ≤ 1536
  sum : s (ix1 0) + s (ix1 1) + s (ix1 2) + s (ix1 3) + s (ix1 4) = 1536#32

/-- The last group ends at the last row. -/
theorem offs_last {s : IVec S5 32} (h : Ok s) : offs s 5 = 1536 := by
  have h0 := h.le 0; have h1 := h.le 1; have h2 := h.le 2; have h3 := h.le 3; have h4 := h.le 4
  have e := congrArg BitVec.toNat h.sum
  simp only [BitVec.toNat_add, BitVec.toNat_ofNat] at e
  have : offs s 5 = (s (ix1 0)).toNat + (s (ix1 1)).toNat + (s (ix1 2)).toNat + (s (ix1 3)).toNat + (s (ix1 4)).toNat := by
    unfold offs
    simp only [Finset.sum_range_succ, Finset.sum_range_zero, Nat.zero_add]
    rfl
  rw [this]
  omega

/-- A running sum as a word is the bound as a word. -/
theorem running (s : IVec S5 32) (j : Fin 5) : (∑ i : Fin 5, if i ≤ j then s (ix1 i) else 0) = BitVec.ofNat 32 (offs s (j.val + 1)) := by
  have hc : ∀ i : Fin 5, s (ix1 i) = BitVec.ofNat 32 (cnt s i.val) := fun i => by
    unfold cnt; rw [dif_pos i.isLt]; simp
  simp only [hc]
  unfold offs
  fin_cases j <;> simp [Fin.sum_univ_five, Finset.sum_range_succ, BitVec.ofNat_add, Fin.le_def]

/-- The table's word `e` is bound `e`. -/
theorem table_at (s : IVec S5 32) (z : IVec S1 32) (hz : z (ix1 0) = 0#32) (init : IVec S_ 32) (hinit : init ix0 = 0#32)
    (h : S5.ReduceWindows (![5] : Fin 1 → Nat) ![1] ![4] ![0] S5) (hu : 0 < S_.numel)
    (hc : Shape.Concatenates [S1, S5] S6 0) (e : Fin 6) :
    concatenate S6 0 [⟨S1, z⟩, ⟨S5, Host.reduceWindow IntOp.addi ![5] ![1] ![4] ![0] s init h hu⟩] hc (ix1 e) = BitVec.ofNat 32 (offs s e.val) := by
  match e with
  | ⟨0, _⟩ =>
    refine (concatenate_pair_apply_left (t := S6) (s₁ := S1) (s₂ := S5) 0 z _ hc (ix1 0) rfl (ix1 0) (fun b => ?_)).trans hz
    match b with
    | ⟨0, _⟩ => rfl
  | ⟨i + 1, hi⟩ =>
    refine (concatenate_pair_apply_right (t := S6) (s₁ := S1) (s₂ := S5) 0 z _ hc (ix1 ⟨i + 1, hi⟩) rfl rfl (ix1 ⟨i, by omega⟩) (fun b hb => ?_) ?_).trans ?_
    · match b with
      | ⟨0, _⟩ => exact absurd rfl hb
    · rfl
    · exact (Routing.cumsum_vec (N := 5) (Nm1 := 4) rfl s init hinit h hu ⟨i, by omega⟩).trans (running s ⟨i, by omega⟩)

theorem and_one {x y : BitVec 1} (h : IntOp.andi x y = 1#1) : x = 1#1 ∧ y = 1#1 := by
  revert h; revert x y; decide

theorem toNat_le {x : BitVec 32} (h0 : IntOp.cmpi .sge x 0#32 = 1#1) (h1 : IntOp.cmpi .sle x 1536#32 = 1#1) : x.toNat ≤ 1536 := by
  have e0 : (0#32).sle x = true := by
    have : BitVec.ofBool ((0#32).sle x) = 1#1 := h0
    revert this; cases (0#32).sle x <;> simp
  have e1 : x.sle 1536#32 = true := by
    have : BitVec.ofBool (x.sle 1536#32) = 1#1 := h1
    revert this; cases x.sle 1536#32 <;> simp
  rw [BitVec.sle_iff_toInt_le] at e0 e1
  have e2 : (0#32).toInt = 0 := by decide
  have e3 : (1536#32).toInt = 1536 := by decide
  rw [e2] at e0; rw [e3] at e1
  have := x.isLt
  rw [BitVec.toInt_eq_toNat_cond] at e0 e1
  split at e0 <;> omega

theorem eq_of_cmpi {x y : BitVec 32} (h : IntOp.cmpi .eq x y = 1#1) : x = y := by
  have : BitVec.ofBool (x == y) = 1#1 := h
  by_contra hne
  rw [beq_false_of_ne hne] at this
  exact absurd this (by decide)

/-- A scale the second precondition admits: not 0, not 255. -/
def ScaleOk (x : BitVec 8) : Prop := 1 ≤ x.toNat ∧ x.toNat ≤ 254

theorem scale_ok {x : BitVec 8} (h0 : IntOp.cmpi .uge x 1#8 = 1#1) (h1 : IntOp.cmpi .ule x 254#8 = 1#1) : ScaleOk x := by
  have e0 : (1#8).ule x = true := by
    have : BitVec.ofBool ((1#8).ule x) = 1#1 := h0
    revert this; cases (1#8).ule x <;> simp
  have e1 : x.ule 254#8 = true := by
    have : BitVec.ofBool (x.ule 254#8) = 1#1 := h1
    revert this; cases x.ule 254#8 <;> simp
  rw [BitVec.ule_iff_toNat_le] at e0 e1
  exact ⟨e0, e1⟩

theorem ok_intro {s : IVec S5 32}
    (h : ∀ i : Fin 5, (IntOp.cmpi .sge (s (ix1 i)) 0#32 = 1#1 ∧ IntOp.cmpi .sle (s (ix1 i)) 1536#32 = 1#1)
      ∧ IntOp.cmpi .eq (s (ix1 0) + s (ix1 1) + s (ix1 2) + s (ix1 3) + s (ix1 4)) 1536#32 = 1#1) : Ok s :=
  ⟨fun i => toNat_le (h i).1.1 (h i).1.2, eq_of_cmpi (h 0).2⟩

section
variable {F : FTy → Type} [FloatOps F]

theorem ok_of_counts [Cert.Pre_counts.Facts] {x0 : FVec F Cert.Pre_counts.S6x256x2880 .fp8e4m3} {x1 : IVec Cert.Pre_counts.S6x256x90 8}
    {x2 : FVec F Cert.Pre_counts.S5x5760x2880 .fp8e4m3} {x3 : IVec Cert.Pre_counts.S5x5760x90 8} {s : IVec S5 32}
    (h : Cert.Pre_counts.fn (F := F) x0 x1 x2 x3 s = fun _ => 1#1) : Ok s := by
  refine ok_intro fun i => ?_
  have e := congrFun h (ix1 i)
  unfold Cert.Pre_counts.fn Cert.Pre_counts.fn_part1 at e
  obtain ⟨e1, e2⟩ := and_one e
  obtain ⟨e3, e4⟩ := and_one e1
  refine ⟨⟨e3, e4⟩, ?_⟩
  rw [← e2]
  pointwise
  rfl

variable [Cert.Pre_valid.Facts] {x0 : FVec F Cert.Pre_valid.S6x256x2880 .fp8e4m3} {x1 : IVec Cert.Pre_valid.S6x256x90 8}
    {x2 : FVec F Cert.Pre_valid.S5x5760x2880 .fp8e4m3} {x3 : IVec Cert.Pre_valid.S5x5760x90 8} {s : IVec S5 32}

theorem ok_of_valid (h : (Cert.Pre_valid.fn (F := F) x0 x1 x2 x3 s).1 = fun _ => 1#1) : Ok s := by
  refine ok_intro fun i => ?_
  have e := congrFun h (ix1 i)
  unfold Cert.Pre_valid.fn Cert.Pre_valid.fn_part1 at e
  obtain ⟨e1, e2⟩ := and_one e
  obtain ⟨e3, e4⟩ := and_one e1
  refine ⟨⟨e3, e4⟩, ?_⟩
  rw [← e2]
  pointwise
  rfl

theorem x_scales_ok (h : (Cert.Pre_valid.fn (F := F) x0 x1 x2 x3 s).2.1 = fun _ => 1#1) (j : Cert.Pre_valid.S6x256x90.Idx) : ScaleOk (x1 j) := by
  have e := congrFun h j
  unfold Cert.Pre_valid.fn Cert.Pre_valid.fn_part1 at e
  obtain ⟨e1, e2⟩ := and_one e
  exact scale_ok e1 e2

theorem w_scales_ok (h : (Cert.Pre_valid.fn (F := F) x0 x1 x2 x3 s).2.2 = fun _ => 1#1) (j : Cert.Pre_valid.S5x5760x90.Idx) : ScaleOk (x3 j) := by
  have e := congrFun h j
  unfold Cert.Pre_valid.fn Cert.Pre_valid.fn_part1 at e
  obtain ⟨e1, e2⟩ := and_one e
  exact scale_ok e1 e2

end

end Cert.Counts
-- ==== Proof.Whole.lean ====
/-
  The whole run: what the arrays hold when the kernel starts, and what it leaves.
-/
module

public import proofs.«01_k».proof.Proof.Sound
public import proofs.«01_k».proof.Proof.Counts
public import Idealize.ShloMosaic.Lib.StableHlo.Run

@[expose] public section

set_option maxRecDepth 4000
set_option maxHeartbeats 1000000

noncomputable section

namespace Cert.KernelIdeal.Hand

open Cert.KernelIdeal Cert.KernelIdeal.Gen
open Idealize.ShloMosaic hiding ix0 ix1 eq_ix1 ix2 eq_ix2 ix3 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (g : Dev nD → PrngReg)

/-! ## What the buffers hold when the kernel starts -/

abbrev hostOps : List (List (HloOp τ sig (Elt F))) := [hostOps0, hostOps0_1, hostOps0_2]

/-- The buffers' contents after the operations before the kernel. -/
def V0 (c : Dev nD) (b : Ref sig .tc) : Buf (Elt F) ((c : Thread nD τ).loc b) :=
  StableHlo.after (hostOps (F := F)).flatten (fun b => m (c, b)) b

/-- The group sizes. -/
abbrev sizes : IVec Counts.S5 32 := show IVec Counts.S5 32 from m (((0 : Dev nD) : Thread nD τ).loc main_arg4)

/-- The groups' bounds. -/
abbrev bounds : ℕ → ℕ := Counts.offs (sizes m)

theorem V0_table (e : Fin 6) : (show S6.Idx → BitVec 32 from V0 m 0 main_v2) (ix1 e) = BitVec.ofNat 32 (bounds m e.val) := by
  have hV : (show S6.Idx → BitVec 32 from V0 m 0 main_v2)
      = concatenate S6 0 [⟨S1, broadcastInDim S1 ![] bcast_S_S1 (constantI S_ 32 0#32)⟩,
          ⟨S5, Host.reduceWindow IntOp.addi ![5] ![1] ![4] ![0] (sizes m) (broadcastInDim S_ ![] bcast_S_S_ (constantI S_ 32 0#32)) reduceWindows_S5_S5_w5s1p4_0 h_S_⟩]
          concatenates_S1_S5_S6_d0 := by
    show StableHlo.after (hostOps (F := F)).flatten (fun b => m (0, b)) (Proc.devRef .tc main_v2) = _
    unfold hostOps hostOps0 hostOps0_1 hostOps0_2
    simp only [List.flatten_cons, List.flatten_nil, List.cons_append, List.nil_append, List.append_nil]
    after_results
    rfl
  rw [hV]
  exact Counts.table_at (sizes m) _ rfl _ rfl _ _ _ e

theorem V0_arg (c : Dev nD) (b : Ref sig .tc) (hb : b ∉ [main_c, main_v0, main_call0_call0_c, main_call0_call0_v0, main_v1, main_v2, main_v3, main_v4]) :
    V0 m c b = m ((c : Thread nD τ).loc b) := by
  unfold V0
  refine StableHlo.after_of_writes_sub _ _ ?_ hb
  unfold hostOps hostOps0 hostOps0_1 hostOps0_2
  simp only [List.flatten_cons, List.flatten_nil, List.cons_append, List.nil_append, List.append_nil]
  refine ⟨?_, ?_, ?_, ?_, ?_, ?_, ?_, ?_⟩ <;>
    (intro x hx; have hx' := Finset.mem_singleton.1 hx; rw [hx']; exact List.mem_toFinset.2 (List.mem_map.2 ⟨_, by decide, rfl⟩))

theorem V0_codes (c : Dev nD) : (show S1536x2880.Idx → F .fp8e4m3 from V0 m c main_v3)
    = shapeCast S1536x2880 (show S6x256x2880.Idx → F .fp8e4m3 from m ((c : Thread nD τ).loc main_arg0)) shapeCasts_S6x256x2880_S1536x2880 := by
  show StableHlo.after (hostOps (F := F)).flatten (fun b => m (c, b)) (Proc.devRef .tc main_v3) = _
  unfold hostOps hostOps0 hostOps0_1 hostOps0_2
  simp only [List.flatten_cons, List.flatten_nil, List.cons_append, List.nil_append, List.append_nil]
  after_results
  rfl

theorem V0_scales (c : Dev nD) : (show S1536x90.Idx → BitVec 8 from V0 m c main_v4)
    = shapeCast S1536x90 (show S6x256x90.Idx → BitVec 8 from m ((c : Thread nD τ).loc main_arg1)) shapeCasts_S6x256x90_S1536x90 := by
  show StableHlo.after (hostOps (F := F)).flatten (fun b => m (c, b)) (Proc.devRef .tc main_v4) = _
  unfold hostOps hostOps0 hostOps0_1 hostOps0_2
  simp only [List.flatten_cons, List.flatten_nil, List.cons_append, List.nil_append, List.append_nil]
  after_results
  rfl

/-! ## The run -/

/-- The table's contents at the kernel's start. -/
def adm : (pcfg0 (F := F)).Adm := ⟨fun k => V0 m 0 (pre0.ref k), trivial⟩

variable (Good : ℕ → ℕ → F .bf16 → Prop)

/-- What the run needs of `Good`. -/
structure Goods : Prop where
  cast : ∀ r y v, Good r y v → Good r y (FloatOps.truncf .bf16 bitsLt_bf16_f32 (FloatOps.extf .f32 bitsLt_bf16_f32 v))
  dot : ∀ (e : Fin 5) (n : Fin 9) (k : ℕ) (X : Vec F S256x2880 .bf16) (W : Vec F S640x2880 .bf16),
    (∀ (j : Fin 256) (hj : k + j.val < 1536) (x : Fin 2880), X (ix2 j x) = xDeq (V0 m) 0 ⟨k + j.val, hj⟩ x) →
    (∀ (y : Fin 640) (x : Fin 2880), W (ix2 y x) = wDeq (V0 m) 0 e ⟨640 * n.val + y.val, by omega⟩ x) →
    ∀ (j : Fin 256) (y : Fin 640), bounds m e.val ≤ k + j.val → k + j.val < bounds m (e.val + 1) →
      Good (k + j.val) (640 * n.val + y.val) (FloatOps.truncf .bf16 bitsLt_bf16_f32 (chunkDot X W (ix2 j y)))

variable {m Good} in
theorem hyp (hok : Counts.Ok (sizes m)) (hG : Goods m Good) (c : Dev nD) : Hyp (adm m) (V0 m) (bounds m) Good c := by
  obtain rfl : c = 0 := Subsingleton.elim _ _
  exact ⟨fun e => V0_table m e, Counts.offs_first _, Counts.offs_last hok, fun e _ => Counts.offs_mono _ e, hG.cast, hG.dot⟩

abbrev dat (c : Dev nD) : RDat τ (Elt F) Unit ℕ (UR sig nD τ) ℕ (cfg0 (adm m)) c := rdat (adm m) (V0 m) (bounds m) Good c

theorem prefHeld_one (c : Dev nD) (q : Fin 1 → PosShare TreeShare) (v : pre0.Contents (Elt F)) :
    (Pipeline.prefHeld pre0 c q v : sProp 𝕄) = (((c : Thread nD τ).loc main_v2) ↦{q 0} (show Buf (Elt F) ((c : Thread nD τ).loc main_v2) from v 0)) := by
  unfold Pipeline.prefHeld
  rw [show (Finset.univ : Finset (Fin 1)) = {0} from by decide, bigSep_singleton]
  rfl

theorem pts_whole (c : Dev nD) (q : PosShare TreeShare) (b : Ref sig .tc) (f : Buf (Elt F) ((c : Thread nD τ).loc b)) :
    (((c : Thread nD τ).loc b) ↦{q} f : sProp 𝕄) = pts c q (Memref.whole b) f := by
  unfold pts
  rw [show (Memref.whole b).view.set = Finset.univ from View.set_whole _]

variable {m Good} in
theorem enter (hok : Counts.Ok (sizes m)) (hG : Goods m Good) (c : Dev nD) :
    iprop(Pipeline.ΦA spec0 c ∗ Pipeline.ΦT pre0 (adm m).1 c) ⊢ (dat m Good c).Φ 0 := by
  rw [show (dat m Good c).Φ 0 = Phi (adm m) (V0 m) (bounds m) Good c 0 from rfl]
  unfold Pipeline.ΦA Pipeline.ΦT Phi
  rw [scopedRest0_eq, prefHeld_one]
  simp only [pts_whole]
  iintro ⟨⟨⟨⟨%f0, H0⟩, ⟨%f1, H1⟩, ⟨%f2, H2⟩⟩, Hg⟩, HT⟩
  isplitl [H0]
  · iexists f0; isplitr; · ipureintro; exact fun h => absurd h (Nat.lt_irrefl _)
    iexact H0
  isplitl [H1]; · iexists f1; iexact H1
  isplitl [H2]
  · iexists f2; isplitr; · ipureintro; exact fun r y hr => absurd hr (Nat.not_lt_zero _)
    iexact H2
  isplitl [Hg]; · iexact Hg
  iexact HT

theorem leave (c : Dev nD) : (dat m Good c).Φ (Fin.last (cfg0 (adm m)).N) ⊢ Pipeline.ΦA spec0 c := by
  rw [show (dat m Good c).Φ (Fin.last (cfg0 (adm m)).N) = Phi (adm m) (V0 m) (bounds m) Good c (cfg0 (adm m)).N from rfl]
  unfold Pipeline.ΦA Phi
  rw [scopedRest0_eq]
  simp only [pts_whole]
  iintro ⟨⟨%f0, -, H0⟩, ⟨%f1, H1⟩, ⟨%f2, -, H2⟩, Hg, -⟩
  isplitr [Hg]
  · isplitl [H0]; · iexists f0; iexact H0
    isplitl [H1]; · iexists f1; iexact H1
    iexists f2; iexact H2
  iexact Hg

theorem host_main : Pipeline.HMainP (Ix := Unit) (Name := ℕ) (U := UR sig nD τ) (Lvl := ℕ) (pcfgs (F := F)) 0 defs₀ Variants.none m main (V0 m) :=
  Pipeline.hmainP_prefixes (pcfgs (F := F)) 0 defs₀ Variants.none m main (hostOps (F := F))
    ⟨hostOps0_sub, hostOps0_1_sub, hostOps0_2_sub⟩ ⟨⟨rfl, rfl⟩, ⟨rfl, rfl, rfl⟩, ⟨rfl, rfl, rfl⟩⟩ (fun c => (main_chain c).trans rfl)

variable {m Good} in
set_option backward.isDefEq.respectTransparency.types false in
/-- The program terminates; each array then stands as the pipeline's proof data say, and every counter is zero. -/
theorem run_main (hok : Counts.Ok (sizes m)) (hG : Goods m Good) :
    θ_run (defs (F := F)) (onTc (τ := τ) (main (F := F))) (s₀ m g)
      (fun r => Pipeline.RDat.FramePost (cfg0 (adm m)) (dat m Good) (V0 m) r ∧ r.2.sem = fun _ => 0) :=
  Pipeline.RDat.θ_run_frameP_track (Q' := _) (pcfgs (F := F)) (fun _ => adm m) (0 : Fin 1) launch0 defs₀ Variants.none (dat m Good) m g main
    (hbody := fun c => body_obligation (adm m) (V0 m) (bounds m) Good c (hyp hok hG c))
    (hshare := fun c => (dat m Good c).share_full fun _ => rfl)
    (howed := fun _ _ => rfl) (V := V0 m) (hmain := host_main m) (hA := fun c w => rfl)
    (hpf := fun c k => by obtain rfl : c = 0 := Subsingleton.elim _ _; rfl)
    (hin := enter hok hG) (hout := leave m Good)
    (hQ' := fun _ h => h)

/-! ## What it leaves -/

variable {m Good}

/-- The arguments end as they began. -/
theorem args_kept {r : PUnit × MemSt nD τ sig (Elt F)} (h : Pipeline.RDat.FramePost (cfg0 (adm m)) (dat m Good) (V0 m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine ⟨?_, ?_, ?_, ?_, ?_⟩
  · exact ((h c).2 main_arg0 (Pipeline.mem_restRefs_of main_arg0 (by decide) (show ∀ w : Fin 5, (spec0 w).arr.view.ref ≠ main_arg0 by decide))).trans (V0_arg m c _ (by decide))
  · exact ((h c).2 main_arg1 (Pipeline.mem_restRefs_of main_arg1 (by decide) (show ∀ w : Fin 5, (spec0 w).arr.view.ref ≠ main_arg1 by decide))).trans (V0_arg m c _ (by decide))
  · exact (h.arr_in c 2 rfl).trans (V0_arg m c main_arg2 (by decide))
  · exact (h.arr_in c 3 rfl).trans (V0_arg m c main_arg3 (by decide))
  · exact ((h c).2 main_arg4 (Pipeline.mem_restRefs_of main_arg4 (by decide) (show ∀ w : Fin 5, (spec0 w).arr.view.ref ≠ main_arg4 by decide))).trans (V0_arg m c _ (by decide))

theorem goods_trivial : Goods m (fun _ _ _ => True) := ⟨fun _ _ _ _ => trivial, fun _ _ _ _ _ _ _ _ _ _ _ => trivial⟩

/-- The program terminates, its arguments end as they began and every counter is zero. -/
theorem quiet (hok : Counts.Ok (sizes m)) :
    θ_run (defs (F := F)) (onTc (τ := τ) (main (F := F))) (s₀ m g) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => args_kept h.1 c, h.2⟩) (run_main g hok goods_trivial)

end Cert.KernelIdeal.Hand
-- ==== Proof.Out.lean ====
/-
  What the output array holds after the run: every element is good.

  Each column block is written back once, after its last group's point; what the earlier points of a block leave is not relied on.
-/
module

public import proofs.«01_k».proof.Proof.Whole

@[expose] public section

set_option maxRecDepth 4000

noncomputable section

namespace Cert.KernelIdeal.Hand

open Cert.KernelIdeal Cert.KernelIdeal.Gen
open Idealize.ShloMosaic hiding ix0 ix1 eq_ix1 ix2 eq_ix2 ix3 eq_ix3
open Idealize.ShloMosaic.TcCoe Idealize.ShloMosaic.Tactic Idealize.ShloMosaic.ValueIdx
open Idealize.SL Idealize.SL.RA Idealize.SL.Sem
open Idealize.ShloMosaic.Pipeline (RDat)

variable {F : FTy → Type} [FloatOps F] [∀ e, Nonempty (Elt F e)]

section
variable (a : (pcfg0 (F := F)).Adm) (V : (c : Dev nD) → (b : Ref sig .tc) → Buf (Elt F) ((c : Thread nD τ).loc b))
  (offs : ℕ → ℕ) (Good : ℕ → ℕ → F .bf16 → Prop) (c : Dev nD)

/-- The output block is written back at a group loop's last point. -/
theorem flush4 (t : Fin (cfg0 a).N) (h : t.val % 5 = 4) : ((cfg0 a).win 4).flush t = true := by
  unfold Pipeline.Window.flush
  refine Bool.and_eq_true_iff.mpr ⟨rfl, ?_⟩
  have hl : t.val < 45 := t_lt t
  by_cases h45 : t.val + 1 = (cfg0 a).N
  · simp [h45]
  · refine Bool.or_eq_true_iff.mpr (Or.inr (decide_eq_true ?_))
    have hN : (cfg0 a).N = 45 := N_0
    refine ⟨lt_of_lt_of_eq (by omega : t.val + 1 < 45) N_0.symm, fun e => ?_⟩
    have e1 := congrFun e (1 : Fin 2)
    have e2 : cc0_transform_4 (grid0.coords ⟨t.val + 1, by have : grid0.N = 45 := N_0; omega⟩) (1 : Fin 2) = cc0_transform_4 (grid0.coords t) (1 : Fin 2) := e1
    rw [tr4_at, tr4_at] at e2
    have e3 : (t.val + 1) / 5 = t.val / 5 := e2
    omega

/-- Where the block's element at row `r` and column `y` stands in the array. -/
theorem emb4 (t : Fin (cfg0 a).N) (r : Fin 1536) (y : Fin 640) :
    (((cfg0 a).win 4).blk t).view.emb (ix2 r y : S1536x640.Idx)
      = (ix2 r ⟨640 * (t.val / 5) + y.val, by have := t_lt t; omega⟩ : S1536x5760.Idx) := by
  have htr := tr4_at t
  funext x
  apply Fin.ext
  match x with
  | ⟨0, _⟩ =>
    show cc0_transform_4 (grid0.coords t) 0 * 1536 + 1 * r.val = r.val
    rw [htr]; show 0 * 1536 + 1 * r.val = r.val; omega
  | ⟨1, _⟩ =>
    show cc0_transform_4 (grid0.coords t) 1 * 640 + 1 * y.val = 640 * (t.val / 5) + y.val
    rw [htr]; show t.val / 5 * 640 + 1 * y.val = 640 * (t.val / 5) + y.val; omega

/-- Of the output array: the columns of the first `n` blocks hold good values. -/
def ColsGood (n : ℕ) (G : S1536x5760.Idx → F .bf16) : Prop :=
  ∀ (r : Fin 1536) (col : Fin 5760), col.val < 640 * n → Good r.val col.val (G (ix2 r col))

theorem div_step (t : ℕ) (h : t % 5 = 4) : (t + 1) / 5 = t / 5 + 1 := by omega
theorem div_stay (t : ℕ) (h : t % 5 ≠ 4) : (t + 1) / 5 = t / 5 := by omega

theorem cols_step (t : Fin (cfg0 a).N) (G₀ : S1536x5760.Idx → F .bf16) (X : S1536x640.Idx → F .bf16)
    (h0 : ColsGood Good (t.val / 5) G₀)
    (hX : t.val % 5 = 4 → ∀ (r : Fin 1536) (y : Fin 640), Good r.val (640 * (t.val / 5) + y.val) (X (ix2 r y))) :
    ColsGood Good ((t.val + 1) / 5) ((((cfg0 a).win 4).blk t).view.write (Elt F) G₀ X Finset.univ) := by
  intro r col hcol
  by_cases hlt : col.val < 640 * (t.val / 5)
  · have hn : (ix2 r col : S1536x5760.Idx) ∉ (((cfg0 a).win 4).blk t).view.setOn Finset.univ := by
      rw [View.setOn_univ]
      intro hm
      obtain ⟨j, -, hj⟩ := Finset.mem_map.mp hm
      obtain ⟨r', y, rfl⟩ : ∃ (r' : Fin 1536) (y : Fin 640), j = (ix2 r' y : S1536x640.Idx) :=
        ⟨(show S1536x640.Idx from j) 0, (show S1536x640.Idx from j) 1, eq_ix2 (show S1536x640.Idx from j)⟩
      have h1 := congrArg (fun i : S1536x5760.Idx => (i 1).val) ((emb4 a t r' y).symm.trans hj)
      have h2 : 640 * (t.val / 5) + y.val = col.val := h1
      omega
    exact (congrArg (Good r.val col.val) (View.write_of_not_mem (v := (((cfg0 a).win 4).blk t).view) (Val := Elt F) G₀ X Finset.univ hn)).mpr (h0 r col hlt)
  · by_cases h4 : t.val % 5 = 4
    · rw [div_step _ h4] at hcol
      have hy : col.val - 640 * (t.val / 5) < 640 := by omega
      have hc : 640 * (t.val / 5) + (⟨col.val - 640 * (t.val / 5), hy⟩ : Fin 640).val = col.val := by
        show 640 * (t.val / 5) + (col.val - 640 * (t.val / 5)) = col.val; omega
      have he := emb4 a t r ⟨col.val - 640 * (t.val / 5), hy⟩
      have hcol' : (ix2 r ⟨640 * (t.val / 5) + (⟨col.val - 640 * (t.val / 5), hy⟩ : Fin 640).val, by rw [hc]; exact col.isLt⟩ : S1536x5760.Idx) = ix2 r col := by
        congr 1; exact Fin.ext hc
      have hw := View.write_emb_of_mem (v := (((cfg0 a).win 4).blk t).view) (Val := Elt F) G₀ X (Finset.mem_univ (ix2 r ⟨col.val - 640 * (t.val / 5), hy⟩ : S1536x640.Idx))
      rw [he] at hw
      have := hX h4 r ⟨col.val - 640 * (t.val / 5), hy⟩
      rw [hc] at this
      exact (congrArg (Good r.val col.val) ((congrArg _ hcol').symm.trans hw)).mpr this
    · rw [div_stay _ h4] at hcol
      exact absurd hcol hlt

/-- After `n` points the columns of the blocks gone through are good. -/
theorem cols_good : ∀ n : ℕ, n ≤ 45 → ∀ G, (rdat a V offs Good c).ArrAt 4 n G → ColsGood Good (n / 5) (show S1536x5760.Idx → F .bf16 from G) := by
  intro n
  induction n with
  | zero => intro _ G _ r col h; exact absurd h (by simp)
  | succ n ih =>
    intro hn G hG
    have hN : (cfg0 a).N = 45 := N_0
    have hlt : n < (cfg0 a).N := by omega
    have hG' := hG
    rw [show n + 1 = (⟨n, hlt⟩ : Fin (cfg0 a).N).val + 1 from rfl, (rdat a V offs Good c).ArrAt_succ 4 ⟨n, hlt⟩] at hG'
    by_cases hf : ((cfg0 a).win 4).flush ⟨n, hlt⟩ = true
    · rw [if_pos hf] at hG'
      obtain ⟨G₀, X, h0, ⟨Y, hY, hX⟩, rfl⟩ := hG'
      exact cols_step a Good ⟨n, hlt⟩ G₀ _ (ih (by omega) _ h0) hX
    · rw [if_neg hf] at hG'
      have h4 : n % 5 ≠ 4 := fun h4 => hf (flush4 a ⟨n, hlt⟩ h4)
      rw [div_stay _ h4]
      exact ih (by omega) _ hG'

end

variable {m : (b : Loc nD τ sig) → Buf (Elt F) b} {Good : ℕ → ℕ → F .bf16 → Prop}

/-- After the run every element of the result is good. -/
theorem result_good {r : PUnit × MemSt nD τ sig (Elt F)} (h : Pipeline.RDat.FramePost (cfg0 (adm m)) (dat m Good) (V0 m) r) (c : Dev nD)
    (row : Fin 1536) (col : Fin 5760) :
    Good row.val col.val ((show S1536x5760.Idx → F .bf16 from r.2.mem ((c : Thread nD τ).loc main_v5)) (ix2 row col)) := by
  have h1 := (h c).1 4
  have hN : (cfg0 (adm m)).N = 45 := N_0
  rw [hN] at h1
  exact cols_good (adm m) (V0 m) (bounds m) Good c 45 le_rfl _ h1 row col (by have := col.isLt; omega)

end Cert.KernelIdeal.Hand
-- ==== Proof.RefRun.lean ====
/-
  The reference's run: its result array as one function of the argument arrays.

  The reference is one call without a grid. It stores the whole result once, so the array after the run is that store's value, read
  off the argument arrays.
-/
module

public import proofs.«01_k».proof.Proof.Gen.ReferenceIdeal.Value
public import Idealize.ShloMosaic.Lib.Pipeline.ValueKit.Acc

@[expose] public section

noncomputable section

namespace Cert.ReferenceIdeal.Hand

open Cert.ReferenceIdeal Cert.ReferenceIdeal.Gen Cert.ReferenceIdeal.Value
open Idealize.ShloMosaic Idealize.ShloMosaic.TcCoe Idealize.SL.Sem

variable {F : FTy → Type} [FloatOps F]

/-- Place `k` of the group sizes. -/
def word (k : Fin 5) : S5.Idx := fun a => match a with | ⟨0, _⟩ => k

/-- The result array as one function of the argument arrays: the store's value. -/
def G (x1 : Vec F S6x256x2880 .fp8e4m3) (x2 : Vec F S6x256x90 .i8) (x3 : Vec F S5x5760x2880 .fp8e4m3) (x4 : Vec F S5x5760x90 .i8)
    (x0 : Vec F S5 .i32) : Vec F S1536x5760 .bf16 :=
  k0_pay7 (k0_pay1 x1 x2) (k0_pay2 x3 x4) (iota .tc S1536x5760 32 [0] iota_S1536x5760_d0_w32) k0_pay3
    (Scalar.addi (0#32) (x0 (word 0))) (k0_pay4 x1 x2 x3 x4) k0_pay5 (k0_pay6 (x0 (word 0)))
    (x0 (word 1)) (x0 (word 2)) (x0 (word 3)) (x0 (word 4))

theorem ld_word (x0 : Vec F S5 .i32) (k : ℕ) (h : k < 5) (hi) (hp) :
    View.ld x0 (Rect.unit (s := S5) ![k] ![1] hi) (Shape.Idx.first hp) = x0 (word ⟨k, h⟩) :=
  congrArg x0 (funext fun a => by match a with | ⟨0, _⟩ => rfl)

/-- What the body leaves in the output's buffer is `G` of the input buffers' contents. -/
theorem out_eq (c : Dev nD) (arg0 : Memref sig .tc .smem S5 .i32) (harg0 : arg0.IsWhole) (arg1 : Memref sig .tc .vmem S6x256x2880 .fp8e4m3)
    (harg1 : arg1.IsWhole) (arg2 : Memref sig .tc .vmem S6x256x90 .i8) (harg2 : arg2.IsWhole) (arg3 : Memref sig .tc .vmem S5x5760x2880 .fp8e4m3)
    (harg3 : arg3.IsWhole) (arg4 : Memref sig .tc .vmem S5x5760x90 .i8) (harg4 : arg4.IsWhole) (arg5 : Memref sig .tc .vmem S1536x5760 .bf16)
    (harg5 : arg5.IsWhole) (x0 : Vec F S5 .i32) (x1 : Vec F S6x256x2880 .fp8e4m3) (x2 : Vec F S6x256x90 .i8)
    (x3 : Vec F S5x5760x2880 .fp8e4m3) (x4 : Vec F S5x5760x90 .i8) :
    out0_A_5 c arg0 harg0 arg1 harg1 arg2 harg2 arg3 harg3 arg4 harg4 arg5 harg5 x0 x1 x2 x3 x4 = G x1 x2 x3 x4 x0 := by
  frame_out
  rw [ld_word x0 0 (by decide), ld_word x0 1 (by decide), ld_word x0 2 (by decide), ld_word x0 3 (by decide), ld_word x0 4 (by decide)]
  rfl

variable (m : (ℓ : Loc nD τ sig) → Buf (Elt F) ℓ) (ρ : Dev nD → PrngReg)

/-! Each window's block is its whole array. -/

theorem idx_zero0 : ∀ t : Fin cfg0.N, win0_0.index t (0 : Fin 1) = 0 := (by decide +kernel : ∀ t : Fin grid0.N, _)
theorem idx_zero1 : ∀ t : Fin cfg0.N, win0_1.index t (0 : Fin 3) = 0 ∧ win0_1.index t (1 : Fin 3) = 0 ∧ win0_1.index t (2 : Fin 3) = 0 := (by decide +kernel : ∀ t : Fin grid0.N, _)
theorem idx_zero2 : ∀ t : Fin cfg0.N, win0_2.index t (0 : Fin 3) = 0 ∧ win0_2.index t (1 : Fin 3) = 0 ∧ win0_2.index t (2 : Fin 3) = 0 := (by decide +kernel : ∀ t : Fin grid0.N, _)
theorem idx_zero3 : ∀ t : Fin cfg0.N, win0_3.index t (0 : Fin 3) = 0 ∧ win0_3.index t (1 : Fin 3) = 0 ∧ win0_3.index t (2 : Fin 3) = 0 := (by decide +kernel : ∀ t : Fin grid0.N, _)
theorem idx_zero4 : ∀ t : Fin cfg0.N, win0_4.index t (0 : Fin 3) = 0 ∧ win0_4.index t (1 : Fin 3) = 0 ∧ win0_4.index t (2 : Fin 3) = 0 := (by decide +kernel : ∀ t : Fin grid0.N, _)
theorem idx_zero5 : ∀ t : Fin cfg0.N, win0_5.index t (0 : Fin 2) = 0 ∧ win0_5.index t (1 : Fin 2) = 0 := (by decide +kernel : ∀ t : Fin grid0.N, _)

theorem emb0 (t : Fin cfg0.N) (j : S5.Idx) : ((cfg0.win 0).blk t).view.emb j = j := by
  have e0 := idx_zero0 t
  funext a; apply Fin.ext
  match a with
  | ⟨0, _⟩ => show win0_0.index t (0 : Fin 1) * 5 + 1 * (j 0).val = (j 0).val; omega

theorem emb1 (t : Fin cfg0.N) (j : S6x256x2880.Idx) : ((cfg0.win 1).blk t).view.emb j = j := by
  obtain ⟨e0, e1, e2⟩ := idx_zero1 t
  funext a; apply Fin.ext
  match a with
  | ⟨0, _⟩ => show win0_1.index t (0 : Fin 3) * 6 + 1 * (j 0).val = (j 0).val; omega
  | ⟨1, _⟩ => show win0_1.index t (1 : Fin 3) * 256 + 1 * (j 1).val = (j 1).val; omega
  | ⟨2, _⟩ => show win0_1.index t (2 : Fin 3) * 2880 + 1 * (j 2).val = (j 2).val; omega

theorem emb2 (t : Fin cfg0.N) (j : S6x256x90.Idx) : ((cfg0.win 2).blk t).view.emb j = j := by
  obtain ⟨e0, e1, e2⟩ := idx_zero2 t
  funext a; apply Fin.ext
  match a with
  | ⟨0, _⟩ => show win0_2.index t (0 : Fin 3) * 6 + 1 * (j 0).val = (j 0).val; omega
  | ⟨1, _⟩ => show win0_2.index t (1 : Fin 3) * 256 + 1 * (j 1).val = (j 1).val; omega
  | ⟨2, _⟩ => show win0_2.index t (2 : Fin 3) * 90 + 1 * (j 2).val = (j 2).val; omega

theorem emb3 (t : Fin cfg0.N) (j : S5x5760x2880.Idx) : ((cfg0.win 3).blk t).view.emb j = j := by
  obtain ⟨e0, e1, e2⟩ := idx_zero3 t
  funext a; apply Fin.ext
  match a with
  | ⟨0, _⟩ => show win0_3.index t (0 : Fin 3) * 5 + 1 * (j 0).val = (j 0).val; omega
  | ⟨1, _⟩ => show win0_3.index t (1 : Fin 3) * 5760 + 1 * (j 1).val = (j 1).val; omega
  | ⟨2, _⟩ => show win0_3.index t (2 : Fin 3) * 2880 + 1 * (j 2).val = (j 2).val; omega

theorem emb4 (t : Fin cfg0.N) (j : S5x5760x90.Idx) : ((cfg0.win 4).blk t).view.emb j = j := by
  obtain ⟨e0, e1, e2⟩ := idx_zero4 t
  funext a; apply Fin.ext
  match a with
  | ⟨0, _⟩ => show win0_4.index t (0 : Fin 3) * 5 + 1 * (j 0).val = (j 0).val; omega
  | ⟨1, _⟩ => show win0_4.index t (1 : Fin 3) * 5760 + 1 * (j 1).val = (j 1).val; omega
  | ⟨2, _⟩ => show win0_4.index t (2 : Fin 3) * 90 + 1 * (j 2).val = (j 2).val; omega

theorem emb5 (t : Fin cfg0.N) (j : S1536x5760.Idx) : ((cfg0.win 5).blk t).view.emb j = j := by
  obtain ⟨e0, e1⟩ := idx_zero5 t
  funext a; apply Fin.ext
  match a with
  | ⟨0, _⟩ => show win0_5.index t (0 : Fin 2) * 1536 + 1 * (j 0).val = (j 0).val; omega
  | ⟨1, _⟩ => show win0_5.index t (1 : Fin 2) * 5760 + 1 * (j 1).val = (j 1).val; omega

theorem iblk0_eq (c : Dev nD) (t : Fin cfg0.N) : iblk m c 0 t = V m c main_arg4 := by
  funext j; show V m c main_arg4 (((cfg0.win 0).blk t).view.emb j) = V m c main_arg4 j; rw [emb0]

theorem iblk1_eq (c : Dev nD) (t : Fin cfg0.N) : iblk m c 1 t = V m c main_arg0 := by
  funext j; show V m c main_arg0 (((cfg0.win 1).blk t).view.emb j) = V m c main_arg0 j; rw [emb1]

theorem iblk2_eq (c : Dev nD) (t : Fin cfg0.N) : iblk m c 2 t = V m c main_arg1 := by
  funext j; show V m c main_arg1 (((cfg0.win 2).blk t).view.emb j) = V m c main_arg1 j; rw [emb2]

theorem iblk3_eq (c : Dev nD) (t : Fin cfg0.N) : iblk m c 3 t = V m c main_arg2 := by
  funext j; show V m c main_arg2 (((cfg0.win 3).blk t).view.emb j) = V m c main_arg2 j; rw [emb3]

theorem iblk4_eq (c : Dev nD) (t : Fin cfg0.N) : iblk m c 4 t = V m c main_arg3 := by
  funext j; show V m c main_arg3 (((cfg0.win 4).blk t).view.emb j) = V m c main_arg3 j; rw [emb4]

theorem cut5_eq (t : Fin cfg0.N) (X : Vec F S1536x5760 .bf16) :
    (cfg0.win 5).cut (grid0.coords t) X = ((cfg0.win 5).blk t).view.read (Elt F) X := by
  funext j
  show X j = X (((cfg0.win 5).blk t).view.emb j)
  rw [emb5]

theorem flushed5_eq (c : Dev nD) (t : Fin cfg0.N) :
    (dats m 0 c).flushed 5 t = ((cfg0.win 5).blk t).view.read (Elt F) (G (V m c main_arg0) (V m c main_arg1) (V m c main_arg2) (V m c main_arg3) (V m c main_arg4)) := by
  rw [flushed5_A, out_eq, iblk0_eq, iblk1_eq, iblk2_eq, iblk3_eq, iblk4_eq]
  exact cut5_eq t _

theorem covered5 (i : S1536x5760.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

/-- The result array after the run: `G` of the argument arrays as launched. -/
theorem final5 (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5 (G (V m c main_arg0) (V m c main_arg1) (V m c main_arg2) (V m c main_arg3) (V m c main_arg4))
    (fun t _ => flushed5_eq m c t) covered5).trans (by rw [V_main_arg0, V_main_arg1, V_main_arg2, V_main_arg3, V_main_arg4])

end Cert.ReferenceIdeal.Hand
-- ==== Proof.RefValue.lean ====
/-
  The reference's result, read at an index over the extended reals.

  The reference computes every group's whole product and keeps, row by row, the product of the group whose rows include the row.
-/
module

public import proofs.«01_k».proof.Proof.RefRun
public import proofs.«01_k».proof.Proof.Counts
public import Idealize.ShloMosaic.Lib.Pointwise

@[expose] public section

noncomputable section

namespace Cert.ReferenceIdeal.Hand

open Cert.ReferenceIdeal Cert.ReferenceIdeal.Gen Cert.Counts
open Idealize.ShloMosaic Idealize.ShloMosaic.TcCoe

/-- A scale byte as the reference reads it: two to the byte less 127. -/
def scale (s : BitVec 8) : EReal := Ideal.exp2 ((((s.setWidth 32 - 127#32).toInt : ℤ) : ℝ) : EReal)

/-- The reference's dequantised left operand at row `r` and column `k`. -/
theorem pay1_apply (x1 : Vec Ideal S6x256x2880 .fp8e4m3) (x2 : Vec Ideal S6x256x90 .i8) (r : Fin 1536) (k : Fin 2880) :
    k0_pay1 x1 x2 (ix2 r k) = (x1 (ix3 ⟨r.val / 256, by omega⟩ ⟨r.val % 256, by omega⟩ k) : EReal)
      * scale (x2 (ix3 ⟨r.val / 256, by omega⟩ ⟨r.val % 256, by omega⟩ ⟨k.val / 32, by omega⟩)) := by
  pointwise [k0_pay1]
  rfl

/-- The reference's dequantised right operand, transposed. -/
theorem pay2_apply (x3 : Vec Ideal S5x5760x2880 .fp8e4m3) (x4 : Vec Ideal S5x5760x90 .i8) (e : Fin 5) (col : Fin 5760) (k : Fin 2880) :
    k0_pay2 x3 x4 (ix3 e k col) = (x3 (ix3 e col k) : EReal) * scale (x4 (ix3 e col ⟨k.val / 32, by omega⟩)) := by
  pointwise [k0_pay2]
  rfl

/-! ## The groups' bounds as the reference forms them -/

theorem word_eq (k : Fin 5) : word k = (ValueIdx.ix1 k : Counts.S5.Idx) := by
  funext a; match a with | ⟨0, _⟩ => rfl

theorem add_size (s : IVec Counts.S5 32) (e : Fin 5) :
    Scalar.addi (BitVec.ofNat 32 (offs s e.val)) (s (word e)) = BitVec.ofNat 32 (offs s (e.val + 1)) := by
  rw [word_eq]
  unfold offs
  rw [Finset.sum_range_succ, BitVec.ofNat_add]
  show _ + _ = _ + _
  congr 1
  unfold cnt; rw [dif_pos e.isLt]; simp

theorem sge_iff {r a : ℕ} (hr : r ≤ 1536) (ha : a ≤ 1536) :
    IntOp.cmpi .sge (BitVec.ofNat 32 r) (BitVec.ofNat 32 a) = if a ≤ r then 1#1 else 0#1 := by
  show BitVec.ofBool ((BitVec.ofNat 32 a).sle (BitVec.ofNat 32 r)) = _
  have h : (BitVec.ofNat 32 a).sle (BitVec.ofNat 32 r) = decide (a ≤ r) := by
    rw [Bool.eq_iff_iff, BitVec.sle_iff_toInt_le, decide_eq_true_iff]
    rw [BitVec.toInt_eq_toNat_of_lt (by simp; omega), BitVec.toInt_eq_toNat_of_lt (by simp; omega)]
    simp only [BitVec.toNat_ofNat]
    omega
  rw [h]; by_cases h' : a ≤ r <;> simp [h']

theorem slt_iff {r b : ℕ} (hr : r ≤ 1536) (hb : b ≤ 1536) :
    IntOp.cmpi .slt (BitVec.ofNat 32 r) (BitVec.ofNat 32 b) = if r < b then 1#1 else 0#1 := by
  show BitVec.ofBool ((BitVec.ofNat 32 r).slt (BitVec.ofNat 32 b)) = _
  have h : (BitVec.ofNat 32 r).slt (BitVec.ofNat 32 b) = decide (r < b) := by
    rw [Bool.eq_iff_iff, BitVec.slt_iff_toInt_lt, decide_eq_true_iff]
    rw [BitVec.toInt_eq_toNat_of_lt (by simp; omega), BitVec.toInt_eq_toNat_of_lt (by simp; omega)]
    simp only [BitVec.toNat_ofNat]
    omega
  rw [h]; by_cases h' : r < b <;> simp [h']

/-- One step of the reference's choice. -/
theorem choose {r a b : ℕ} (hr : r ≤ 1536) (ha : a ≤ 1536) (hb : b ≤ 1536) (x y : EReal) :
    Scalar.select (IntOp.andi (IntOp.cmpi .sge (BitVec.ofNat 32 r) (BitVec.ofNat 32 a)) (IntOp.cmpi .slt (BitVec.ofNat 32 r) (BitVec.ofNat 32 b))) x y
      = if a ≤ r ∧ r < b then x else y := by
  rw [sge_iff hr ha, slt_iff hr hb]
  by_cases h1 : a ≤ r <;> by_cases h2 : r < b <;> simp [h1, h2, Scalar.select, IntOp.andi]

/-- Of five steps of the choice the one whose rows include `r` is kept. -/
theorem chain (o : ℕ → ℕ) (mono : ∀ e, o e ≤ o (e + 1)) (r : ℕ) (f : Fin 5 → EReal) (z : EReal) (e : Fin 5)
    (h1 : o e.val ≤ r) (h2 : r < o (e.val + 1)) :
    (if o 4 ≤ r ∧ r < o 5 then f 4 else if o 3 ≤ r ∧ r < o 4 then f 3 else if o 2 ≤ r ∧ r < o 3 then f 2
      else if o 1 ≤ r ∧ r < o 2 then f 1 else if o 0 ≤ r ∧ r < o 1 then f 0 else z) = f e := by
  have m0 := mono 0; have m1 := mono 1; have m2 := mono 2; have m3 := mono 3; have m4 := mono 4
  simp only [Nat.zero_add, Nat.reduceAdd] at m0 m1 m2 m3 m4
  match e with
  | ⟨0, _⟩ =>
    simp only [Nat.zero_add] at h1 h2
    rw [if_neg (by omega), if_neg (by omega), if_neg (by omega), if_neg (by omega), if_pos ⟨h1, h2⟩]; rfl
  | ⟨1, _⟩ =>
    simp only [Nat.reduceAdd] at h1 h2
    rw [if_neg (by omega), if_neg (by omega), if_neg (by omega), if_pos ⟨h1, h2⟩]; rfl
  | ⟨2, _⟩ =>
    simp only [Nat.reduceAdd] at h1 h2
    rw [if_neg (by omega), if_neg (by omega), if_pos ⟨h1, h2⟩]; rfl
  | ⟨3, _⟩ =>
    simp only [Nat.reduceAdd] at h1 h2
    rw [if_neg (by omega), if_pos ⟨h1, h2⟩]; rfl
  | ⟨4, _⟩ =>
    simp only [Nat.reduceAdd] at h1 h2
    rw [if_pos ⟨h1, h2⟩]; rfl

theorem offs_le {s : IVec Counts.S5 32} (h : Ok s) : offs s 1 ≤ 1536 ∧ offs s 2 ≤ 1536 ∧ offs s 3 ≤ 1536 ∧ offs s 4 ≤ 1536 := by
  have m1 := offs_mono s 1; have m2 := offs_mono s 2; have m3 := offs_mono s 3; have m4 := offs_mono s 4
  have h5 := offs_last h
  simp only [Nat.reduceAdd] at m1 m2 m3 m4
  omega

/-- The reference's result at a row of group `e`: the row's product with the group's matrix. -/
theorem G_value (x1 : Vec Ideal S6x256x2880 .fp8e4m3) (x2 : Vec Ideal S6x256x90 .i8) (x3 : Vec Ideal S5x5760x2880 .fp8e4m3)
    (x4 : Vec Ideal S5x5760x90 .i8) (x0 : IVec Counts.S5 32) (hok : Ok x0) (r : Fin 1536) (col : Fin 5760) (e : Fin 5)
    (h1 : offs x0 e.val ≤ r.val) (h2 : r.val < offs x0 (e.val + 1)) :
    G x1 x2 x3 x4 x0 (ix2 r col) = ∑ k : Fin 2880,
      ((x1 (ix3 ⟨r.val / 256, by omega⟩ ⟨r.val % 256, by omega⟩ k) : EReal)
        * scale (x2 (ix3 ⟨r.val / 256, by omega⟩ ⟨r.val % 256, by omega⟩ ⟨k.val / 32, by omega⟩)))
      * ((x3 (ix3 e col k) : EReal) * scale (x4 (ix3 e col ⟨k.val / 32, by omega⟩))) := by
  have a0 := add_size x0 0; have a1 := add_size x0 1; have a2 := add_size x0 2; have a3 := add_size x0 3; have a4 := add_size x0 4
  have z0 : BitVec.ofNat 32 (offs x0 (0 : Fin 5).val) = 0#32 := by rw [show (0 : Fin 5).val = 0 from rfl, offs_first]
  rw [z0] at a0
  have hr : r.val ≤ 1536 := by omega
  obtain ⟨l1, l2, l3, l4⟩ := offs_le hok
  have l5 : offs x0 5 ≤ 1536 := (offs_last hok).le
  pointwise [G, k0_pay7, k0_pay4, k0_pay3, k0_pay5, k0_pay6]
  have z0' : (0#32 : BitVec 32) = BitVec.ofNat 32 (offs x0 0) := z0.symm
  rw [a0]
  simp only [show (0 : Fin 5).val + 1 = (1 : Fin 5).val from rfl]
  rw [a1]
  simp only [show (1 : Fin 5).val + 1 = (2 : Fin 5).val from rfl]
  rw [a2]
  simp only [show (2 : Fin 5).val + 1 = (3 : Fin 5).val from rfl]
  rw [a3]
  simp only [show (3 : Fin 5).val + 1 = (4 : Fin 5).val from rfl]
  rw [a4, z0']
  simp only [show (1 : Fin 5).val = 1 from rfl, show (2 : Fin 5).val = 2 from rfl, show (3 : Fin 5).val = 3 from rfl,
    show (4 : Fin 5).val = 4 from rfl, Nat.reduceAdd]
  rw [choose hr l4 l5, choose hr l3 l4, choose hr l2 l3, choose hr l1 l2, choose hr (show offs x0 0 ≤ 1536 from Nat.zero_le _) l1]
  refine (chain (offs x0) (offs_mono x0) r.val (fun e' => ∑ k : Fin 2880, k0_pay1 x1 x2 (ix2 r k) * k0_pay2 x3 x4 (ix3 e' k col)) 0 e h1 h2).trans ?_
  exact Finset.sum_congr rfl fun k _ => by rw [pay1_apply, pay2_apply]

end Cert.ReferenceIdeal.Hand
-- ==== Proof.KerValue.lean ====
/-
  The kernel's result over the extended reals.

  Over the extended reals a change of format does nothing, so the kernel's result at a row of a group is the dequantised row's product
  with the group's dequantised matrix. A scale byte that is neither 0 nor 255, read as a float's exponent field, is two to the byte
  less 127: the reference's scale.
-/
module

public import proofs.«01_k».proof.Proof.Out
public import proofs.«01_k».proof.Proof.RefValue
public import Idealize.ShloMosaic.Lib.MatmulPlain

@[expose] public section

set_option maxRecDepth 4000

noncomputable section

namespace Cert.KernelIdeal.Hand

open Cert.KernelIdeal Cert.KernelIdeal.Gen Cert.Counts
open Idealize.ShloMosaic hiding ix0 ix1 eq_ix1 ix2 eq_ix2 ix3 eq_ix3
open Idealize.ShloMosaic.TcCoe Idealize.ShloMosaic.ValueIdx
open Idealize.SL Idealize.SL.Sem

/-! ## The scales -/

theorem exp_field : ∀ s : BitVec 8, ((Scalar.shli (s.setWidth 32) 23#32).extractLsb' 23 8).toNat = s.toNat := by decide +kernel
theorem frac_field : ∀ s : BitVec 8, ((Scalar.shli (s.setWidth 32) 23#32).extractLsb' 0 23).toNat = 0 := by decide +kernel
theorem sign_field : ∀ s : BitVec 8, ((Scalar.shli (s.setWidth 32) 23#32).extractLsb' 31 1 == 1#1) = false := by decide +kernel
theorem less_bias : ∀ s : BitVec 8, (s.setWidth 32 - 127#32).toInt = (s.toNat : ℤ) - 127 := by decide +kernel

/-- The byte read as a float's exponent field is two to the byte less 127. -/
theorem scale_eq {s : BitVec 8} (h : ScaleOk s) :
    (FloatOps.ofBits (F := Ideal) .f32 (Scalar.shli (s.setWidth 32) 23#32) : EReal) = ReferenceIdeal.Hand.scale s := by
  unfold ReferenceIdeal.Hand.scale
  rw [less_bias]
  show Ideal.ieee 8 23 (Scalar.shli (s.setWidth 32) 23#32) = ((Real.rpow 2 (((s.toNat : ℤ) - 127 : ℤ) : ℝ) : ℝ) : EReal)
  unfold Ideal.ieee
  obtain ⟨h1, h2⟩ := h
  dsimp only
  rw [exp_field, frac_field, sign_field, if_neg (by omega), if_neg (by omega)]
  congr 1
  rw [show Real.rpow 2 (((s.toNat : ℤ) - 127 : ℤ) : ℝ) = (2 : ℝ) ^ (((s.toNat : ℤ) - 127 : ℤ) : ℝ) from rfl, Real.rpow_intCast]
  rw [show (s.toNat : ℤ) - 127 = 23 + ((s.toNat : ℤ) - (2 ^ (8 - 1) - 1) - (23 : ℕ)) by norm_num, zpow_add₀ (by norm_num)]
  norm_num

theorem deq_eq (x : Elt Ideal .fp8e4m3) {s : BitVec 8} (h : ScaleOk s) :
    (deq (F := Ideal) x s : EReal) = (x : EReal) * ReferenceIdeal.Hand.scale s := by
  rw [← scale_eq h]; rfl

/-! ## The groups -/

theorem offs_le_of_le (s : IVec Counts.S5 32) {a b : ℕ} (h : a ≤ b) : offs s a ≤ offs s b :=
  monotone_nat_of_le_succ (offs_mono s) h

/-- A row is in one group only. -/
theorem group_unique (s : IVec Counts.S5 32) {r e e' : ℕ} (h1 : offs s e ≤ r) (h2 : r < offs s (e + 1)) (h1' : offs s e' ≤ r)
    (h2' : r < offs s (e' + 1)) : e = e' := by
  rcases Nat.lt_trichotomy e e' with h | h | h
  · have := offs_le_of_le s (show e + 1 ≤ e' from h); omega
  · exact h
  · have := offs_le_of_le s (show e' + 1 ≤ e from h); omega

/-- Every row is in some group. -/
theorem group_exists {s : IVec Counts.S5 32} (hok : Ok s) (r : ℕ) (hr : r < 1536) :
    ∃ e : Fin 5, offs s e.val ≤ r ∧ r < offs s (e.val + 1) := by
  have h5 := offs_last hok
  have h0 := offs_first s
  by_cases c1 : r < offs s 1
  · exact ⟨0, show offs s 0 ≤ r by omega, c1⟩
  by_cases c2 : r < offs s 2
  · exact ⟨1, show offs s 1 ≤ r by omega, c2⟩
  by_cases c3 : r < offs s 3
  · exact ⟨2, show offs s 2 ≤ r by omega, c3⟩
  by_cases c4 : r < offs s 4
  · exact ⟨3, show offs s 3 ≤ r by omega, c4⟩
  · exact ⟨4, show offs s 4 ≤ r by omega, show r < offs s 5 by omega⟩

/-! ## The result -/

variable (m : (b : Loc nD τ sig) → Buf (Elt Ideal) b)

/-- The value `v` is what the result should be at row `r` and column `col`. -/
def Right (r col : ℕ) (v : Ideal .bf16) : Prop :=
  ∀ (e : Fin 5) (hr : r < 1536) (hc : col < 5760), bounds m e.val ≤ r → r < bounds m (e.val + 1) →
    v = ∑ k : Fin 2880, (xDeq (V0 m) 0 ⟨r, hr⟩ k : EReal) * (wDeq (V0 m) 0 e ⟨col, hc⟩ k : EReal)

theorem chunkDot_apply (X : Vec Ideal S256x2880 .bf16) (W : Vec Ideal S640x2880 .bf16) (j : Fin 256) (y : Fin 640) :
    chunkDot X W (ix2 j y) = ∑ k : Fin 2880, (X (ix2 j k) : EReal) * (W (ix2 y k) : EReal) := by
  refine (Idealize.ShloMosaic.Ideal.matmul_transposedRhs_apply (M := 256) (K := 2880) (N := 640) none X W _ j y).trans ?_
  rw [show (constant (F := Ideal) S256x640 .f32 0x00000000#32 (ix2 j y) : EReal) = 0 from by pointwise, zero_add]

theorem goods : Goods m (Right m) where
  cast _ _ _ h := h
  dot e n k X W hX hW j y h1 h2 e' hr hc h1' h2' := by
    obtain rfl : e = e' := Fin.ext (group_unique (sizes m) h1 h2 h1' h2')
    refine (chunkDot_apply X W j y).trans (Finset.sum_congr rfl fun x _ => ?_)
    rw [hX j hr x, hW y x]

/-- The dequantised left operand, as the reference has it. -/
theorem xDeq_eq (hs : ∀ j : S6x256x90.Idx, ScaleOk ((show S6x256x90.Idx → BitVec 8 from m (((0 : Dev nD) : Thread nD τ).loc main_arg1)) j))
    (r : Fin 1536) (k : Fin 2880) :
    (xDeq (V0 m) 0 r k : EReal)
      = ((show S6x256x2880.Idx → Ideal .fp8e4m3 from m (((0 : Dev nD) : Thread nD τ).loc main_arg0))
          (ix3 ⟨r.val / 256, by omega⟩ ⟨r.val % 256, by omega⟩ k) : EReal)
        * ReferenceIdeal.Hand.scale ((show S6x256x90.Idx → BitVec 8 from m (((0 : Dev nD) : Thread nD τ).loc main_arg1))
          (ix3 ⟨r.val / 256, by omega⟩ ⟨r.val % 256, by omega⟩ ⟨k.val / 32, by omega⟩)) := by
  have e1 : xCodes (V0 m) 0 (ix2 r k) = (show S6x256x2880.Idx → Ideal .fp8e4m3 from m (((0 : Dev nD) : Thread nD τ).loc main_arg0))
      (ix3 ⟨r.val / 256, by omega⟩ ⟨r.val % 256, by omega⟩ k) := by
    refine (congrFun (V0_codes m 0) _).trans ?_
    pointwise
    try rfl
  have e2 : xScales (V0 m) 0 (ix2 r ⟨k.val / 32, by omega⟩) = (show S6x256x90.Idx → BitVec 8 from m (((0 : Dev nD) : Thread nD τ).loc main_arg1))
      (ix3 ⟨r.val / 256, by omega⟩ ⟨r.val % 256, by omega⟩ ⟨k.val / 32, by omega⟩) := by
    refine (congrFun (V0_scales m 0) _).trans ?_
    pointwise
    try rfl
  unfold xDeq deqAt
  rw [e1, e2]
  exact deq_eq _ (hs _)

/-- The dequantised right operand, as the reference has it. -/
theorem wDeq_eq (hs : ∀ j : S5x5760x90.Idx, ScaleOk ((show S5x5760x90.Idx → BitVec 8 from m (((0 : Dev nD) : Thread nD τ).loc main_arg3)) j))
    (e : Fin 5) (y : Fin 5760) (k : Fin 2880) :
    (wDeq (V0 m) 0 e y k : EReal)
      = ((show S5x5760x2880.Idx → Ideal .fp8e4m3 from m (((0 : Dev nD) : Thread nD τ).loc main_arg2)) (ix3 e y k) : EReal)
        * ReferenceIdeal.Hand.scale ((show S5x5760x90.Idx → BitVec 8 from m (((0 : Dev nD) : Thread nD τ).loc main_arg3))
          (ix3 e y ⟨k.val / 32, by omega⟩)) := by
  have e1 : wCodes (V0 m) 0 = (show S5x5760x2880.Idx → Ideal .fp8e4m3 from m (((0 : Dev nD) : Thread nD τ).loc main_arg2)) :=
    V0_arg m 0 main_arg2 (by decide)
  have e2 : wScales (V0 m) 0 = (show S5x5760x90.Idx → BitVec 8 from m (((0 : Dev nD) : Thread nD τ).loc main_arg3)) :=
    V0_arg m 0 main_arg3 (by decide)
  unfold wDeq
  rw [e1, e2]
  exact deq_eq _ (hs _)

/-- The reference's function of the kernel's arguments. -/
def ref : S1536x5760.Idx → Ideal .bf16 :=
  ReferenceIdeal.Hand.G (F := Ideal) (m (((0 : Dev nD) : Thread nD τ).loc main_arg0)) (m (((0 : Dev nD) : Thread nD τ).loc main_arg1))
    (m (((0 : Dev nD) : Thread nD τ).loc main_arg2)) (m (((0 : Dev nD) : Thread nD τ).loc main_arg3)) (sizes m)

/-- What the result should be is the reference's. -/
theorem right_eq (hok : Ok (sizes m))
    (hx : ∀ j : S6x256x90.Idx, ScaleOk ((show S6x256x90.Idx → BitVec 8 from m (((0 : Dev nD) : Thread nD τ).loc main_arg1)) j))
    (hw : ∀ j : S5x5760x90.Idx, ScaleOk ((show S5x5760x90.Idx → BitVec 8 from m (((0 : Dev nD) : Thread nD τ).loc main_arg3)) j))
    (r : Fin 1536) (col : Fin 5760) (v : Ideal .bf16) (h : Right m r.val col.val v) : v = ref m (ix2 r col) := by
  obtain ⟨e, h1, h2⟩ := group_exists hok r.val r.isLt
  refine (h e r.isLt col.isLt h1 h2).trans (Eq.trans (Finset.sum_congr rfl fun k _ => ?_)
    (ReferenceIdeal.Hand.G_value _ _ _ _ (sizes m) hok r col e h1 h2).symm)
  exact congrArg₂ (· * ·) (xDeq_eq m hx r k) (wDeq_eq m hw e col k)

/-- The kernel's run: its result is the reference's function of its arguments, which end as they began. -/
theorem run_value (g : Dev nD → PrngReg) (hok : Ok (sizes m))
    (hx : ∀ j : S6x256x90.Idx, ScaleOk ((show S6x256x90.Idx → BitVec 8 from m (((0 : Dev nD) : Thread nD τ).loc main_arg1)) j))
    (hw : ∀ j : S5x5760x90.Idx, ScaleOk ((show S5x5760x90.Idx → BitVec 8 from m (((0 : Dev nD) : Thread nD τ).loc main_arg3)) j)) :
    θ_run (defs (F := Ideal)) (onTc (τ := τ) (main (F := Ideal))) (s₀ m g) (fun r => ∀ c : Dev nD,
      r.2.mem ((c : Thread nD τ).loc main_v5) = ref m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨funext fun j => by
    have hj : j = (ix2 ((show S1536x5760.Idx from j) 0) ((show S1536x5760.Idx from j) 1) : S1536x5760.Idx) := eq_ix2 (show S1536x5760.Idx from j)
    rw [hj]
    exact right_eq m hok hx hw _ _ _ (result_good h.1 c _ _), args_kept h.1 c⟩) (run_main g hok (goods m))

end Cert.KernelIdeal.Hand
-- ==== Proof.lean ====
/-
  The proof of `Cert.Claim` (Defs.lean).

  The kernel is proved once, at any reading of the floats: `KernelIdeal.Hand.quiet` for its frame. The printing for words
  is the same program (`Same.main_eq`, `Same.defs_eq`), so its frame is that theorem at words. Over the extended reals the
  kernel's result (`KernelIdeal.Hand.run_value`) and the reference's (`ReferenceIdeal.Hand.final5`) are the reference's
  function of the arguments.
-/
module

public import proofs.«01_k».proof.Defs
public import proofs.«01_k».proof.Proof.Same
public import proofs.«01_k».proof.Proof.Whole
public import proofs.«01_k».proof.Proof.KerValue
public import proofs.«01_k».proof.Proof.Gen.ReferenceIdeal.Frame
public import proofs.«01_k».proof.Proof.Gen.ReferenceIdeal.Value
public import proofs.«01_k».proof.Proof.Gen.Pre_counts
public import proofs.«01_k».proof.Proof.Gen.Pre_valid
public import Idealize.ShloMosaic.Adequacy
public import Idealize.ShloMosaic.Init

@[expose] public section

noncomputable section

namespace Cert.Proof

open Idealize.ShloMosaic Idealize.SL.Sem

theorem kernel_quiet : Cert.quiescent_Kernel := by
  intro m g h
  rw [Same.main_eq, Same.defs_eq]
  exact Cert.KernelIdeal.Hand.quiet (F := Bits) (m := m) (g := g) (Counts.ok_of_counts (h 0))

theorem kernelIdeal_quiet : Cert.quiescent_KernelIdeal := fun m g h =>
  Cert.KernelIdeal.Hand.quiet (F := Ideal) (m := m) (g := g) (Counts.ok_of_counts (h 0))

theorem kernelIdeal_quiet_valid : Cert.quiescent_KernelIdeal_pre_valid := fun m g h =>
  Cert.KernelIdeal.Hand.quiet (F := Ideal) (m := m) (g := g) (Counts.ok_of_valid (h 0).1)

theorem same_result : Cert.algebraic_KernelIdeal_ReferenceIdeal_pre_valid := by
  intro m g m' g' h hargs
  refine ⟨fun _ => Cert.KernelIdeal.Hand.ref m, ?_, ?_⟩
  · exact Cert.KernelIdeal.Hand.run_value m g (Counts.ok_of_valid (h 0).1) (Counts.x_scales_ok (h 0).2.1) (Counts.w_scales_ok (h 0).2.2)
  · refine (θ_run Cert.ReferenceIdeal.defs _ _).mono (fun r hr c => ⟨?_, (hr c).2⟩) (Cert.ReferenceIdeal.Value.run_blocks m' g')
    obtain rfl : c = 0 := Subsingleton.elim _ _
    obtain ⟨a0, a1, a2, a3, a4⟩ := hargs 0
    refine ((hr 0).1.trans (Cert.ReferenceIdeal.Hand.final5 m' 0)).trans ?_
    rw [a0, a1, a2, a3, a4]
    rfl

theorem claim : Cert.Claim :=
  ⟨Cert.Kernel.Gen.facts, Cert.KernelIdeal.Gen.facts, Cert.ReferenceIdeal.Gen.facts, Cert.Pre_counts.Gen.facts, Cert.Pre_valid.Gen.facts,
    kernel_quiet, kernelIdeal_quiet, kernelIdeal_quiet_valid, fun m g _ => Cert.ReferenceIdeal.Gen.frame m g,
    fun m g _ => Cert.ReferenceIdeal.Gen.frame m g, trivial, same_result⟩

end Cert.Proof

end
